-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_0)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x1024 : Shape := ⟨2, ![4096, 1024]⟩
abbrev S16x1024 : Shape := ⟨2, ![16, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S4096x1024 .f32) (main_arg1 : FVec F S16x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S4096x1024 : Shape := ⟨2, ![4096, 1024]⟩
abbrev S16x1024 : Shape := ⟨2, ![16, 1024]⟩
abbrev S4096x16 : Shape := ⟨2, ![4096, 16]⟩
abbrev S4096x16x320 : Shape := ⟨3, ![4096, 16, 320]⟩
abbrev S1x1 : Shape := ⟨2, ![1, 1]⟩
abbrev S512x1024 : Shape := ⟨2, ![512, 1024]⟩
abbrev S512x16 : Shape := ⟨2, ![512, 16]⟩
abbrev S512x16x320 : Shape := ⟨3, ![512, 16, 320]⟩
abbrev S1x16 : Shape := ⟨2, ![1, 16]⟩
abbrev S512 : Shape := ⟨1, ![512]⟩
abbrev S512x1 : Shape := ⟨2, ![512, 1]⟩
abbrev S512x512 : Shape := ⟨2, ![512, 512]⟩
abbrev S512x16x1 : Shape := ⟨3, ![512, 16, 1]⟩
abbrev S16 : Shape := ⟨1, ![16]⟩
abbrev S1x1x16 : Shape := ⟨3, ![1, 1, 16]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S4096x16, .f32⟩
  | .hbm, ⟨3, _⟩ => ⟨S4096x16x320, .i32⟩
  | .hbm, ⟨4, _⟩ => ⟨S4096x16x320, .f32⟩
  | .hbm, ⟨5, _⟩ => ⟨S1x1, .f32⟩
  | .hbm, ⟨6, _⟩ => ⟨S_, .i32⟩
  | .hbm, ⟨7, _⟩ => ⟨S4096x16x320, .i32⟩
  | .hbm, ⟨8, _⟩ => ⟨S4096x16x320, .i1⟩
  | .hbm, ⟨9, _⟩ => ⟨S4096x16x320, .i1⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S512x16, .f32⟩
  | .local _ .vmem, ⟨4, _⟩ => ⟨S512x16, .f32⟩
  | .local _ .vmem, ⟨5, _⟩ => ⟨S512x16x320, .i32⟩
  | .local _ .vmem, ⟨6, _⟩ => ⟨S512x16x320, .i32⟩
  | .local _ .vmem, ⟨7, _⟩ => ⟨S512x16x320, .f32⟩
  | .local _ .vmem, ⟨8, _⟩ => ⟨S512x16x320, .f32⟩
  | .local _ .vmem, ⟨9, _⟩ => ⟨S1x1, .f32⟩
  | .local _ .vmem, ⟨10, _⟩ => ⟨S1x16, .f32⟩
  | .local _ .vmem, ⟨11, _⟩ => ⟨S1x16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v110 : BitVec 1 := Scalar.cmpi .eq arg0 c7_i32
  let v111 : BitVec 32 := Scalar.extui v110
  let c0_i32_34 : BitVec 32 := 0#32
  let v112 : BitVec 1 := Scalar.cmpi .ne v111 c0_i32_34
  v112

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16x320 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S16x1024 : Shape := ⟨2, ![16, 1024]⟩
abbrev S1024x16 : Shape := ⟨2, ![1024, 16]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S4096x16x320 : Shape := ⟨3, ![4096, 16, 320]⟩
abbrev S8192x3 : Shape := ⟨2, ![8192, 3]⟩
abbrev S4096x2x1 : Shape := ⟨3, ![4096, 2, 1]⟩
abbrev S16 : Shape := ⟨1, ![16]⟩
abbrev S1x1x16 : Shape := ⟨3, ![1, 1, 16]⟩
abbrev S4096x2x16 : Shape := ⟨3, ![4096, 2, 16]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S16x1024, .f32⟩
  | 2 => ⟨S1024x16, .f32⟩
  | 3 => ⟨S4096x16, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x16, .f32⟩
  | 11 => ⟨S4096x16, .f32⟩
  | 12 => ⟨S4096x16, .f32⟩
  | 13 => ⟨S_, .f32⟩
  | 14 => ⟨S4096, .f32⟩
  | 15 => ⟨S4096x1, .f32⟩
  | 16 => ⟨S4096x16, .f32⟩
  | 17 => ⟨S4096x16, .f32⟩
  | 18 => ⟨S4096x2, .f32⟩
  | 19 => ⟨S4096x2, .i32⟩
  | 20 => ⟨S_, .f32⟩
  | 21 => ⟨S4096, .f32⟩
  | 22 => ⟨S4096x1, .f32⟩
  | 23 => ⟨S4096x2, .f32⟩
  | 24 => ⟨S4096x2, .f32⟩
  | 25 => ⟨S8192, .i32⟩
  | 26 => ⟨S8192x1, .i32⟩
  | 27 => ⟨S1x16, .i32⟩
  | 28 => ⟨S8192x16, .i32⟩
  | 29 => ⟨S8192x16, .i32⟩
  | 30 => ⟨S8192x16, .i1⟩
  | 31 => ⟨S8192x16, .i32⟩
  | 32 => ⟨S_, .i32⟩
  | 33 => ⟨S_, .i32⟩
  | 34 => ⟨S8192x16, .i32⟩
  | 35 => ⟨S8192x16, .i32⟩
  | 36 => ⟨S_, .i32⟩
  | 37 => ⟨S8192, .i32⟩
  | 38 => ⟨S_, .i32⟩
  | 39 => ⟨S8192, .i32⟩
  | 40 => ⟨S8192, .i32⟩
  | 41 => ⟨S8192, .i32⟩
  | 42 => ⟨S_, .i32⟩
  | 43 => ⟨S_, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i1⟩
  | 50 => ⟨S8192, .i32⟩
  | 51 => ⟨S8192, .i32⟩
  | 52 => ⟨S_, .i32⟩
  | 53 => ⟨S8192, .i32⟩
  | 54 => ⟨S8192, .i1⟩
  | 55 => ⟨S8192, .i1⟩
  | 56 => ⟨S_, .i32⟩
  | 57 => ⟨S8192, .i32⟩
  | 58 => ⟨S8192, .i32⟩
  | 59 => ⟨S8192, .i32⟩
  | 60 => ⟨S_, .i1⟩
  | 61 => ⟨S4096x16x320, .i1⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x1, .i32⟩
  | 85 => ⟨S8192x1, .i32⟩
  | 86 => ⟨S8192x3, .i32⟩
  | 87 => ⟨S_, .i1⟩
  | 88 => ⟨S8192, .i1⟩
  | 89 => ⟨S4096x16x320, .i1⟩
  | 90 => ⟨S_, .f32⟩
  | 91 => ⟨S4096x16x320, .f32⟩
  | 92 => ⟨S8192, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x1, .i32⟩
  | 116 => ⟨S8192x1, .i32⟩
  | 117 => ⟨S8192x3, .i32⟩
  | 118 => ⟨S4096x16x320, .f32⟩
  | 119 => ⟨S4096x2x1, .i32⟩
  | 120 => ⟨S16, .i32⟩
  | 121 => ⟨S1x1x16, .i32⟩
  | 122 => ⟨S4096x2x16, .i32⟩
  | 123 => ⟨S4096x2x16, .i32⟩
  | 124 => ⟨S4096x2x16, .i1⟩
  | 125 => ⟨S4096x2x16, .f32⟩
  | 126 => ⟨S_, .f32⟩
  | 127 => ⟨S16, .f32⟩
  | _ => ⟨S4096x1024, .f32⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S_, .f32⟩
  | 6 => ⟨S16, .f32⟩
  | 7 => ⟨S16, .f32⟩
  | 8 => ⟨S16, .f32⟩
  | 9 => ⟨S_, .f32⟩
  | 10 => ⟨S_, .f32⟩
  | 11 => ⟨S_, .f32⟩
  | 12 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_call1_call0_c : Ref sig .tc := ⟨.hbm, 32, rfl⟩
abbrev main_call1_call0_v0 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v25 : Ref sig .tc := ⟨.hbm, 59, rfl⟩
abbrev main_c_5 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_c_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_8 : Ref sig .tc := ⟨.hbm, 69, rfl⟩
abbrev main_v32 : Ref sig .tc := ⟨.hbm, 70, rfl⟩
abbrev main_v33 : Ref sig .tc := ⟨.hbm, 71, rfl⟩
abbrev main_c_9 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_10 : Ref sig .tc := ⟨.hbm, 76, rfl⟩
abbrev main_v37 : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_12 : Ref sig .tc := ⟨.hbm, 87, rfl⟩
abbrev main_v46 : Ref sig .tc := ⟨.hbm, 88, rfl⟩
abbrev main_v47 : Ref sig .tc := ⟨.hbm, 89, rfl⟩
abbrev main_cst_13 : Ref sig .tc := ⟨.hbm, 90, rfl⟩
abbrev main_v48 : Ref sig .tc := ⟨.hbm, 91, rfl⟩
abbrev main_v49 : Ref sig .tc := ⟨.hbm, 92, rfl⟩
abbrev main_c_14 : Ref sig .tc := ⟨.hbm, 93, rfl⟩
abbrev main_v50 : Ref sig .tc := ⟨.hbm, 94, rfl⟩
abbrev main_v51 : Ref sig .tc := ⟨.hbm, 95, rfl⟩
abbrev main_c_15 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_16 : Ref sig .tc := ⟨.hbm, 100, rfl⟩
abbrev main_v55 : Ref sig .tc := ⟨.hbm, 101, rfl⟩
abbrev main_v56 : Ref sig .tc := ⟨.hbm, 102, rfl⟩
abbrev main_c_17 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_18 : Ref sig .tc := ⟨.hbm, 107, rfl⟩
abbrev main_v60 : Ref sig .tc := ⟨.hbm, 108, rfl⟩
abbrev main_v61 : Ref sig .tc := ⟨.hbm, 109, rfl⟩
abbrev main_c_19 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_20 : Ref sig .tc := ⟨.hbm, 126, rfl⟩
abbrev main_v77 : Ref sig .tc := ⟨.hbm, 127, rfl⟩
abbrev main_cst_21 : Ref sig .tc := ⟨.hbm, 128, rfl⟩
abbrev main_v78 : Ref sig .tc := ⟨.hbm, 129, rfl⟩
abbrev main_v79 : Ref sig .tc := ⟨.hbm, 130, rfl⟩
abbrev main_cst_22 : Ref sig .tc := ⟨.hbm, 131, rfl⟩
abbrev main_v80 : Ref sig .tc := ⟨.hbm, 132, rfl⟩
abbrev main_cst_23 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_24 : Ref sig .tc := ⟨.hbm, 137, rfl⟩
abbrev main_v84 : Ref sig .tc := ⟨.hbm, 138, rfl⟩
abbrev main_cst_25 : Ref sig .tc := ⟨.hbm, 139, rfl⟩
abbrev main_v85 : Ref sig .tc := ⟨.hbm, 140, rfl⟩

abbrev nD : Nat := 1
abbrev τ : Topo := Topo.v7x

variable {F : FTy → Type} [FloatOps F]
-- ==== Proof.Frames.lean ====
/- The claims that do not compare values: the kernel, its idealization and the idealized reference run to the end,
   leave their arguments unchanged, and leave every semaphore counter at zero. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Lib.Quiescent

@[expose] public section

noncomputable section

namespace Cert.Proof

open Idealize.ShloMosaic Idealize.SL.Sem

/-- The kernel runs at the compiled floats, keeps its arguments and ends with every counter at zero. -/
theorem frame_kernel : quiescent_Kernel (hKernel := Cert.Kernel.Gen.facts) :=
  fun m g _ => Cert.Kernel.Gen.frame m g

/-- The idealized kernel runs, keeps its arguments and ends with every counter at zero. -/
theorem frame_kernelIdeal : quiescent_KernelIdeal (hKernelIdeal := Cert.KernelIdeal.Gen.facts) :=
  fun m g _ => Cert.KernelIdeal.Gen.frame m g

/-- The idealized reference runs and keeps its arguments; it has no semaphore, so every counter is at zero. -/
theorem frame_referenceIdeal : quiescent_ReferenceIdeal (hReferenceIdeal := Cert.ReferenceIdeal.Gen.facts) :=
  fun m g _ => (θ_run _ _ _).mono
    (fun r h => ⟨fun c => ⟨(h c).2.2.2.2.1, (h c).2.2.2.2.2⟩, sem_eq_zero_of_no_sems (by decide) r.2⟩)
    (Cert.ReferenceIdeal.Value.run m g)

/-- The idealized kernel's frame restated under the precondition. -/
theorem frame_kernelIdeal_finite :
    quiescent_KernelIdeal_pre_finite (hKernelIdeal := Cert.KernelIdeal.Gen.facts) (hPre_finite := Cert.Pre_finite.Gen.facts) :=
  fun m g _ => Cert.KernelIdeal.Gen.frame m g

/-- The idealized reference's frame restated under the precondition. -/
theorem frame_referenceIdeal_finite :
    quiescent_ReferenceIdeal_pre_finite (hReferenceIdeal := Cert.ReferenceIdeal.Gen.facts) (hPre_finite := Cert.Pre_finite.Gen.facts) :=
  fun m g _ => frame_referenceIdeal m g trivial

end Cert.Proof

end
-- ==== Proof.Blocks.lean ====
/- What one grid point of the idealized kernel leaves in its output blocks and in its two carried scratches, as plain
   terms of the point's input blocks and of what the point before left: the printed payloads, with every load and store
   of a whole buffer read through. -/
module

public import proofs.«01_k».proof.Proof.Gen.KernelIdeal.Frame
public import Idealize.ShloMosaic.Lib.Pipeline.Value

@[expose] public section

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]

/-- The expert number of each column of a block. -/
abbrev cols : IVec S512x16 32 := iota .tc S512x16 32 [1] iota_S512x16_d1_w32

/-- The block's positions: at the two chosen experts of each token its place in the expert's queue, elsewhere -1. -/
def blkPos (x0 : Vec F S512x1024 .f32) (x1 : Vec F S16x1024 .f32) (carry : Vec F S1x16 .f32) : IVec S512x16 32 :=
  k0_pay21 cols (k0_pay10 x0 x1) (k0_pay13 x0 x1) carry

/-- The block's weights: the first weight at the first chosen expert, the second everywhere else. -/
def blkWts (x0 : Vec F S512x1024 .f32) (x1 : Vec F S16x1024 .f32) : FVec F S512x16 .f32 :=
  k0_pay22 cols (k0_pay10 x0 x1) (k0_pay12 x0 x1) (k0_pay14 x0 x1) (k0_pay15 x0 x1)

/-- The counts carried on: those that came in plus the block's own. -/
def blkCarry (x0 : Vec F S512x1024 .f32) (x1 : Vec F S16x1024 .f32) (carry : Vec F S1x16 .f32) : Vec F S1x16 .f32 :=
  k0_pay20 cols (k0_pay10 x0 x1) (k0_pay13 x0 x1) carry

/-- The probability sums carried on: those that came in plus the block's own. -/
def blkPsum (x0 : Vec F S512x1024 .f32) (x1 : Vec F S16x1024 .f32) (psum : Vec F S1x16 .f32) : Vec F S1x16 .f32 :=
  k0_pay4 (k0_pay8 x0 x1) psum

private theorem hz2 : (![0, 0] : Fin 2 → Nat) = fun _ => 0 := by decide
private theorem hz3 : (![0, 0, 0] : Fin 3 → Nat) = fun _ => 0 := by decide

/-- The probabilities a point of case A leaves. -/
theorem out0_A_2_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : cond0_0 i) (hc1 : ¬cond0_1 i)
    (x0 : Vec F S512x1024 .f32) (x1 : Vec F S16x1024 .f32) :
    out0_A_2 c i a1 h1 a2 h2 a3 h3 a4 h4 a5 h5 a6 h6 a7 h7 a8 h8 hc0 hc1 x0 x1 = k0_pay8 x0 x1 := by
  unfold out0_A_2
  rw [View.read_writes_eq_canon _ _ _ (cover0_A_2 c i a1 h1 a2 h2 a3 h3 a4 h4 a5 h5 a6 h6 a7 h7 a8 h8 hc0 hc1 x0 x1)]
  unfold kernelRun0_A
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]

/-- The dispatch block a point of case A leaves. -/
theorem out0_A_3_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : cond0_0 i) (hc1 : ¬cond0_1 i)
    (x0 : Vec F S512x1024 .f32) (x1 : Vec F S16x1024 .f32) :
    out0_A_3 c i a1 h1 a2 h2 a3 h3 a4 h4 a5 h5 a6 h6 a7 h7 a8 h8 hc0 hc1 x0 x1 = k0_pay2 (blkPos x0 x1 k0_pay6) := by
  unfold out0_A_3
  rw [View.read_writes_eq_canon _ _ _ (cover0_A_3 c i a1 h1 a2 h2 a3 h3 a4 h4 a5 h5 a6 h6 a7 h7 a8 h8 hc0 hc1 x0 x1)]
  unfold kernelRun0_A
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The combine block a point of case A leaves. -/
theorem out0_A_4_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : cond0_0 i) (hc1 : ¬cond0_1 i)
    (x0 : Vec F S512x1024 .f32) (x1 : Vec F S16x1024 .f32) :
    out0_A_4 c i a1 h1 a2 h2 a3 h3 a4 h4 a5 h5 a6 h6 a7 h7 a8 h8 hc0 hc1 x0 x1 = k0_pay3 (blkPos x0 x1 k0_pay6) (blkWts x0 x1) := by
  unfold out0_A_4
  rw [View.read_writes_eq_canon _ _ _ (cover0_A_4 c i a1 h1 a2 h2 a3 h3 a4 h4 a5 h5 a6 h6 a7 h7 a8 h8 hc0 hc1 x0 x1)]
  unfold kernelRun0_A
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The carried counts a point of case A leaves. -/
theorem sout0_A_0_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : cond0_0 i) (hc1 : ¬cond0_1 i)
    (x0 : Vec F S512x1024 .f32) (x1 : Vec F S16x1024 .f32) :
    sout0_A_0 c i a1 h1 a2 h2 a3 h3 a4 h4 a5 h5 a6 h6 a7 h7 a8 h8 hc0 hc1 x0 x1 = blkCarry x0 x1 k0_pay6 := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The carried probability sums a point of case A leaves. -/
theorem sout0_A_1_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : cond0_0 i) (hc1 : ¬cond0_1 i)
    (x0 : Vec F S512x1024 .f32) (x1 : Vec F S16x1024 .f32) :
    sout0_A_1 c i a1 h1 a2 h2 a3 h3 a4 h4 a5 h5 a6 h6 a7 h7 a8 h8 hc0 hc1 x0 x1 = blkPsum x0 x1 k0_pay7 := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The probabilities a point of case B leaves. -/
theorem out0_B_2_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : ¬cond0_1 i)
    (x0 : Vec F S512x1024 .f32) (x1 : Vec F S16x1024 .f32) (xs0 xs1 : Vec F S1x16 .f32) :
    out0_B_2 c i a1 h1 a2 h2 a3 h3 a4 h4 a5 h5 a6 h6 a7 h7 a8 h8 hc0 hc1 x0 x1 xs0 xs1 = k0_pay8 x0 x1 := by
  unfold out0_B_2
  rw [View.read_writes_eq_canon _ _ _ (cover0_B_2 c i a1 h1 a2 h2 a3 h3 a4 h4 a5 h5 a6 h6 a7 h7 a8 h8 hc0 hc1 x0 x1 xs0 xs1)]
  unfold kernelRun0_B
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]

/-- The dispatch block a point of case B leaves. -/
theorem out0_B_3_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : ¬cond0_1 i)
    (x0 : Vec F S512x1024 .f32) (x1 : Vec F S16x1024 .f32) (xs0 xs1 : Vec F S1x16 .f32) :
    out0_B_3 c i a1 h1 a2 h2 a3 h3 a4 h4 a5 h5 a6 h6 a7 h7 a8 h8 hc0 hc1 x0 x1 xs0 xs1 = k0_pay2 (blkPos x0 x1 xs0) := by
  unfold out0_B_3
  rw [View.read_writes_eq_canon _ _ _ (cover0_B_3 c i a1 h1 a2 h2 a3 h3 a4 h4 a5 h5 a6 h6 a7 h7 a8 h8 hc0 hc1 x0 x1 xs0 xs1)]
  unfold kernelRun0_B
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The combine block a point of case B leaves. -/
theorem out0_B_4_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : ¬cond0_1 i)
    (x0 : Vec F S512x1024 .f32) (x1 : Vec F S16x1024 .f32) (xs0 xs1 : Vec F S1x16 .f32) :
    out0_B_4 c i a1 h1 a2 h2 a3 h3 a4 h4 a5 h5 a6 h6 a7 h7 a8 h8 hc0 hc1 x0 x1 xs0 xs1 = k0_pay3 (blkPos x0 x1 xs0) (blkWts x0 x1) := by
  unfold out0_B_4
  rw [View.read_writes_eq_canon _ _ _ (cover0_B_4 c i a1 h1 a2 h2 a3 h3 a4 h4 a5 h5 a6 h6 a7 h7 a8 h8 hc0 hc1 x0 x1 xs0 xs1)]
  unfold kernelRun0_B
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The carried counts a point of case B leaves. -/
theorem sout0_B_0_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : ¬cond0_1 i)
    (x0 : Vec F S512x1024 .f32) (x1 : Vec F S16x1024 .f32) (xs0 xs1 : Vec F S1x16 .f32) :
    sout0_B_0 c i a1 h1 a2 h2 a3 h3 a4 h4 a5 h5 a6 h6 a7 h7 a8 h8 hc0 hc1 x0 x1 xs0 xs1 = blkCarry x0 x1 xs0 := by
  unfold sout0_B_0
  rw [View.read_writes_eq_canon _ _ _ (scover0_B_0 c i a1 h1 a2 h2 a3 h3 a4 h4 a5 h5 a6 h6 a7 h7 a8 h8 hc0 hc1 x0 x1 xs0 xs1)]
  unfold kernelRun0_B
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The carried probability sums a point of case B leaves. -/
theorem sout0_B_1_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : ¬cond0_1 i)
    (x0 : Vec F S512x1024 .f32) (x1 : Vec F S16x1024 .f32) (xs0 xs1 : Vec F S1x16 .f32) :
    sout0_B_1 c i a1 h1 a2 h2 a3 h3 a4 h4 a5 h5 a6 h6 a7 h7 a8 h8 hc0 hc1 x0 x1 xs0 xs1 = blkPsum x0 x1 xs1 := by
  unfold sout0_B_1
  rw [View.read_writes_eq_canon _ _ _ (scover0_B_1 c i a1 h1 a2 h2 a3 h3 a4 h4 a5 h5 a6 h6 a7 h7 a8 h8 hc0 hc1 x0 x1 xs0 xs1)]
  unfold kernelRun0_B
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The probabilities a point of case C leaves. -/
theorem out0_C_2_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : cond0_1 i)
    (x0 : Vec F S512x1024 .f32) (x1 : Vec F S16x1024 .f32) (xs0 xs1 : Vec F S1x16 .f32) :
    out0_C_2 c i a1 h1 a2 h2 a3 h3 a4 h4 a5 h5 a6 h6 a7 h7 a8 h8 hc0 hc1 x0 x1 xs0 xs1 = k0_pay8 x0 x1 := by
  unfold out0_C_2
  rw [View.read_writes_eq_canon _ _ _ (cover0_C_2 c i a1 h1 a2 h2 a3 h3 a4 h4 a5 h5 a6 h6 a7 h7 a8 h8 hc0 hc1 x0 x1 xs0 xs1)]
  unfold kernelRun0_C
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]

/-- The dispatch block a point of case C leaves. -/
theorem out0_C_3_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : cond0_1 i)
    (x0 : Vec F S512x1024 .f32) (x1 : Vec F S16x1024 .f32) (xs0 xs1 : Vec F S1x16 .f32) :
    out0_C_3 c i a1 h1 a2 h2 a3 h3 a4 h4 a5 h5 a6 h6 a7 h7 a8 h8 hc0 hc1 x0 x1 xs0 xs1 = k0_pay2 (blkPos x0 x1 xs0) := by
  unfold out0_C_3
  rw [View.read_writes_eq_canon _ _ _ (cover0_C_3 c i a1 h1 a2 h2 a3 h3 a4 h4 a5 h5 a6 h6 a7 h7 a8 h8 hc0 hc1 x0 x1 xs0 xs1)]
  unfold kernelRun0_C
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The combine block a point of case C leaves. -/
theorem out0_C_4_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : cond0_1 i)
    (x0 : Vec F S512x1024 .f32) (x1 : Vec F S16x1024 .f32) (xs0 xs1 : Vec F S1x16 .f32) :
    out0_C_4 c i a1 h1 a2 h2 a3 h3 a4 h4 a5 h5 a6 h6 a7 h7 a8 h8 hc0 hc1 x0 x1 xs0 xs1 = k0_pay3 (blkPos x0 x1 xs0) (blkWts x0 x1) := by
  unfold out0_C_4
  rw [View.read_writes_eq_canon _ _ _ (cover0_C_4 c i a1 h1 a2 h2 a3 h3 a4 h4 a5 h5 a6 h6 a7 h7 a8 h8 hc0 hc1 x0 x1 xs0 xs1)]
  unfold kernelRun0_C
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The carried counts a point of case C leaves. -/
theorem sout0_C_0_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : cond0_1 i)
    (x0 : Vec F S512x1024 .f32) (x1 : Vec F S16x1024 .f32) (xs0 xs1 : Vec F S1x16 .f32) :
    sout0_C_0 c i a1 h1 a2 h2 a3 h3 a4 h4 a5 h5 a6 h6 a7 h7 a8 h8 hc0 hc1 x0 x1 xs0 xs1 = blkCarry x0 x1 xs0 := by
  unfold sout0_C_0
  rw [View.read_writes_eq_canon _ _ _ (scover0_C_0 c i a1 h1 a2 h2 a3 h3 a4 h4 a5 h5 a6 h6 a7 h7 a8 h8 hc0 hc1 x0 x1 xs0 xs1)]
  unfold kernelRun0_C
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The carried probability sums a point of case C leaves. -/
theorem sout0_C_1_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : cond0_1 i)
    (x0 : Vec F S512x1024 .f32) (x1 : Vec F S16x1024 .f32) (xs0 xs1 : Vec F S1x16 .f32) :
    sout0_C_1 c i a1 h1 a2 h2 a3 h3 a4 h4 a5 h5 a6 h6 a7 h7 a8 h8 hc0 hc1 x0 x1 xs0 xs1 = blkPsum x0 x1 xs1 := by
  unfold sout0_C_1
  rw [View.read_writes_eq_canon _ _ _ (scover0_C_1 c i a1 h1 a2 h2 a3 h3 a4 h4 a5 h5 a6 h6 a7 h7 a8 h8 hc0 hc1 x0 x1 xs0 xs1)]
  unfold kernelRun0_C
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

/-- The loss a point of case C leaves. -/
theorem out0_C_5_eq
    (c : Dev nD) (i : grid0.Coords)
    (a1 : Memref sig .tc .vmem S512x1024 .f32) (h1 : a1.IsWhole)
    (a2 : Memref sig .tc .vmem S16x1024 .f32) (h2 : a2.IsWhole)
    (a3 : Memref sig .tc .vmem S512x16 .f32) (h3 : a3.IsWhole)
    (a4 : Memref sig .tc .vmem S512x16x320 .i32) (h4 : a4.IsWhole)
    (a5 : Memref sig .tc .vmem S512x16x320 .f32) (h5 : a5.IsWhole)
    (a6 : Memref sig .tc .vmem S1x1 .f32) (h6 : a6.IsWhole)
    (a7 : Memref sig .tc .vmem S1x16 .f32) (h7 : a7.IsWhole)
    (a8 : Memref sig .tc .vmem S1x16 .f32) (h8 : a8.IsWhole)
    (hc0 : ¬cond0_0 i) (hc1 : cond0_1 i)
    (x0 : Vec F S512x1024 .f32) (x1 : Vec F S16x1024 .f32) (xs0 xs1 : Vec F S1x16 .f32) :
    out0_C_5 c i a1 h1 a2 h2 a3 h3 a4 h4 a5 h5 a6 h6 a7 h7 a8 h8 hc0 hc1 x0 x1 xs0 xs1 = k0_pay5 (blkCarry x0 x1 xs0) (blkPsum x0 x1 xs1) := by
  unfold out0_C_5
  rw [View.read_writes_eq_canon _ _ _ (cover0_C_5 c i a1 h1 a2 h2 a3 h3 a4 h4 a5 h5 a6 h6 a7 h7 a8 h8 hc0 hc1 x0 x1 xs0 xs1)]
  unfold kernelRun0_C
  dsimp only
  sl_unfold_words
  simp only [View.canon_cons_unit_zero (S := S512x16) hz2, View.canon_cons_unit_zero (S := S512x16x320) hz3, View.canon_cons_unit_zero (S := S1x16) hz2, View.canon_cons_unit_zero (S := S1x1) hz2, View.readCov_unit_zero (S := S1x16) _ hz2,
    View.readAt_eq_ld, h1.read_unread, h2.read_unread, h7.read_unread, h8.read_unread, View.ld_unit_zero (S := S512x1024) hz2, View.ld_unit_zero (S := S16x1024) hz2, View.ld_unit_zero (S := S1x16) hz2]
  rfl

end Cert.KernelIdeal.Blocks

end
-- ==== Proof.Fold.lean ====
/- The idealized kernel's run read as values: each result array as one function of the two arguments. The grid's blocks
   are the consecutive groups of 512 tokens; the carried scratches are the running sums over the blocks already done. -/
module

public import proofs.«01_k».proof.Proof.Blocks
public import Idealize.ShloMosaic.Lib.ValueIdx
public import Idealize.ShloMosaic.Lib.StableHlo.RunRead
public import Idealize.ShloMosaic.Lib.Pipeline.FrameSuffix

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## The arrays as functions of the arguments -/

section Arrays

variable (X : FVec F S4096x1024 .f32) (W : FVec F S16x1024 .f32)

/-- The `n`-th block of 512 tokens. -/
def tokBlk (n : ℕ) : Vec F S512x1024 .f32 := fun j => X (ix2 ⟨(n * 512 + (j 0).val) % 4096, Nat.mod_lt _ (by decide)⟩ (j 1))

/-- The counts carried into block `n`. -/
def carryAt : ℕ → Vec F S1x16 .f32
  | 0 => k0_pay6
  | n + 1 => blkCarry (tokBlk X n) W (carryAt n)

/-- The probability sums carried into block `n`. -/
def psumAt : ℕ → Vec F S1x16 .f32
  | 0 => k0_pay7
  | n + 1 => blkPsum (tokBlk X n) W (psumAt n)

/-- The probabilities, all tokens. -/
def probsArr : FVec F S4096x16 .f32 := fun i =>
  k0_pay8 (tokBlk X ((i 0).val / 512)) W (ix2 ⟨(i 0).val % 512, Nat.mod_lt _ (by decide)⟩ (i 1))

/-- The dispatch indicator as words, all tokens. -/
def dispArr : IVec S4096x16x320 32 := fun i =>
  k0_pay2 (blkPos (tokBlk X ((i 0).val / 512)) W (carryAt X W ((i 0).val / 512)))
    (ix3 ⟨(i 0).val % 512, Nat.mod_lt _ (by decide)⟩ (i 1) (i 2))

/-- The combine weights, all tokens. -/
def combArr : FVec F S4096x16x320 .f32 := fun i =>
  k0_pay3 (blkPos (tokBlk X ((i 0).val / 512)) W (carryAt X W ((i 0).val / 512))) (blkWts (tokBlk X ((i 0).val / 512)) W)
    (ix3 ⟨(i 0).val % 512, Nat.mod_lt _ (by decide)⟩ (i 1) (i 2))

/-- The loss. -/
def lossArr : FVec F S1x1 .f32 := k0_pay5 (carryAt X W 8) (psumAt X W 8)

end Arrays

/-! ## Every grid point -/

variable (m : (ℓ : Loc nD τ sig) → Buf (Elt F) ℓ) (ρ : Dev nD → PrngReg)

/-- The tokens on device `c`. -/
abbrev argX (c : Dev nD) : FVec F S4096x1024 .f32 := m ((c : Thread nD τ).loc main_arg0)
/-- The gate's weights on device `c`. -/
abbrev argW (c : Dev nD) : FVec F S16x1024 .f32 := m ((c : Thread nD τ).loc main_arg1)

/-- The block index of each window at each point. -/
theorem idxs : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0) :=
  (by decide +kernel : ∀ t : Fin grid0.N, _)

/-- When each output window is written back. -/
theorem flushes : ∀ t : Fin cfg0.N, (cfg0.win 2).flush t = true ∧ (cfg0.win 3).flush t = true
    ∧ (cfg0.win 4).flush t = true ∧ ((cfg0.win 5).flush t = true ↔ t.val = 7) :=
  (by decide +kernel : ∀ t : Fin grid0.N, win0_2.flush t = true ∧ win0_3.flush t = true ∧ win0_4.flush t = true
    ∧ (win0_5.flush t = true ↔ t.val = 7))

theorem lt8 (t : Fin cfg0.N) : t.val < 8 := lt_of_lt_of_eq t.isLt (show cfg0.N = 8 from N_0)

/-- The token window's block at point `t` is the `t`-th group of tokens. -/
theorem iblk0 (c : Dev nD) (t : Fin cfg0.N) : iblk m c 0 t = tokBlk (argX m c) t.val := by
  have ht := lt8 t
  obtain ⟨⟨e0, e1⟩, -⟩ := idxs t
  funext y
  have hy0 : (y 0).val < 512 := (y 0).isLt
  show m ((c : Thread nD τ).loc main_arg0) (((cfg0.win 0).blk t).view.emb y) = m ((c : Thread nD τ).loc main_arg0) _
  congr 1
  funext a; apply Fin.ext
  match a with
  | ⟨0, _⟩ =>
    show win0_0.index t (0 : Fin 2) * 512 + 1 * (y 0).val = (t.val * 512 + (y 0).val) % 4096
    rw [e0]; omega
  | ⟨1, _⟩ =>
    show win0_0.index t (1 : Fin 2) * 1024 + 1 * (y 1).val = (y 1).val
    rw [e1]; omega

/-- The weight window's block is the whole weight array. -/
theorem iblk1 (c : Dev nD) (t : Fin cfg0.N) : iblk m c 1 t = argW m c := by
  obtain ⟨-, ⟨e0, e1⟩, -⟩ := idxs t
  funext y
  show m ((c : Thread nD τ).loc main_arg1) (((cfg0.win 1).blk t).view.emb y) = m ((c : Thread nD τ).loc main_arg1) y
  congr 1
  funext a; apply Fin.ext
  match a with
  | ⟨0, _⟩ =>
    show win0_1.index t (0 : Fin 2) * 16 + 1 * (y 0).val = (y 0).val
    rw [e0]; omega
  | ⟨1, _⟩ =>
    show win0_1.index t (1 : Fin 2) * 1024 + 1 * (y 1).val = (y 1).val
    rw [e1]; omega

/-- What the buffers hold after point `n`: the block's three outputs and the two carried sums; and at the last point the
    loss. -/
theorem outs_eq (c : Dev nD) : ∀ (n : ℕ) (hn : n < cfg0.N),
    (outsAt0 m c n hn).1 = k0_pay8 (tokBlk (argX m c) n) (argW m c)
    ∧ (outsAt0 m c n hn).2.1 = k0_pay2 (blkPos (tokBlk (argX m c) n) (argW m c) (carryAt (argX m c) (argW m c) n))
    ∧ (outsAt0 m c n hn).2.2.1 = k0_pay3 (blkPos (tokBlk (argX m c) n) (argW m c) (carryAt (argX m c) (argW m c) n))
        (blkWts (tokBlk (argX m c) n) (argW m c))
    ∧ (n = 7 → (outsAt0 m c n hn).2.2.2.1 = lossArr (argX m c) (argW m c))
    ∧ (outsAt0 m c n hn).2.2.2.2.1 = carryAt (argX m c) (argW m c) (n + 1)
    ∧ (outsAt0 m c n hn).2.2.2.2.2 = psumAt (argX m c) (argW m c) (n + 1) := by
  intro n
  induction n with
  | zero =>
    intro hn
    have e := outsAt0_A m c ⟨0, hn⟩ (Nat.zero_mod _) (fun h => by dsimp only at h; omega)
    simp only [] at e
    rw [e]
    simp only [out0_A_2_eq, out0_A_3_eq, out0_A_4_eq, sout0_A_0_eq, sout0_A_1_eq, iblk0, iblk1]
    refine ⟨?_, ?_, ?_, fun h => absurd h (by decide), ?_, ?_⟩ <;> first | rfl | trivial
  | succ n ih =>
    intro hn
    have hN : n + 1 < 8 := lt8 ⟨n + 1, hn⟩
    obtain ⟨-, -, -, -, ic, ip⟩ := ih (Nat.lt_of_succ_lt hn)
    have h0 : ¬(n + 1) % 8 = 0 := by omega
    by_cases h1 : (n + 1) % 8 = 7
    · have e := outsAt0_C m c ⟨n + 1, hn⟩ h0 h1
      simp only [Nat.add_sub_cancel] at e
      rw [e]
      simp only [out0_C_2_eq, out0_C_3_eq, out0_C_4_eq, out0_C_5_eq, sout0_C_0_eq, sout0_C_1_eq, iblk0, iblk1, ic, ip]
      refine ⟨?_, ?_, ?_, fun h => ?_, ?_, ?_⟩
      case refine_4 => obtain rfl : n = 6 := by omega
                       rfl
      all_goals first | rfl | trivial
    · have e := outsAt0_B m c ⟨n + 1, hn⟩ h0 h1
      simp only [Nat.add_sub_cancel] at e
      rw [e]
      simp only [out0_B_2_eq, out0_B_3_eq, out0_B_4_eq, sout0_B_0_eq, sout0_B_1_eq, iblk0, iblk1, ic, ip]
      refine ⟨?_, ?_, ?_, fun h => absurd h (by omega), ?_, ?_⟩ <;> first | rfl | trivial

/-! ## The arrays after the run -/

/-- The probability array. -/
theorem final2 (c : Dev nD) : (dats m 0 c).arrAt 2 cfg0.N = probsArr (argX m c) (argW m c) := by
  refine (dats m 0 c).arrAt_eq_of_cover 2 _ (fun t _ => ?_) (fun i => ?_)
  · obtain ⟨-, -, ⟨e0, e1⟩, -⟩ := idxs t
    show (cfg0.win 2).cut (grid0.coords t) ((dats m 0 c).after 2 t) = _
    rw [after0_2, (outs_eq m c t.val t.isLt).1]
    funext y
    have hy0 : (y 0).val < 512 := (y 0).isLt
    show k0_pay8 (tokBlk (argX m c) t.val) (argW m c) y = probsArr (argX m c) (argW m c) (((cfg0.win 2).blk t).view.emb y)
    have hb0 : (((cfg0.win 2).blk t).view.emb y 0).val = win0_2.index t (0 : Fin 2) * 512 + 1 * (y 0).val := rfl
    have hb1 : (((cfg0.win 2).blk t).view.emb y 1).val = win0_2.index t (1 : Fin 2) * 16 + 1 * (y 1).val := rfl
    unfold probsArr
    rw [show (((cfg0.win 2).blk t).view.emb y 0).val / 512 = t.val by rw [hb0, e0]; omega]
    congr 1
    funext a; apply Fin.ext
    match a with
    | ⟨0, _⟩ => show (y 0).val = (((cfg0.win 2).blk t).view.emb y 0).val % 512; rw [hb0]; omega
    | ⟨1, _⟩ => show (y 1).val = (((cfg0.win 2).blk t).view.emb y 1).val; rw [hb1, e1]; omega
  · have hi0 : (i 0).val < 4096 := (i 0).isLt
    have hi1 : (i 1).val < 16 := (i 1).isLt
    have hq : (i 0).val / 512 < grid0.N := by rw [N_0]; omega
    obtain ⟨-, -, ⟨e0, e1⟩, -⟩ := idxs ⟨(i 0).val / 512, hq⟩
    refine ⟨⟨(i 0).val / 512, hq⟩, (flushes _).1, ?_⟩
    show i ∈ ((View.whole main_v0_0).slice (win0_2.rect ⟨(i 0).val / 512, hq⟩)).set
    rw [View.set_slice_whole, Rect.mem_set_unit]
    intro a
    match a with
    | ⟨0, _⟩ =>
      show win0_2.index ⟨(i 0).val / 512, hq⟩ (0 : Fin 2) * 512 ≤ (i 0).val ∧ (i 0).val < win0_2.index ⟨(i 0).val / 512, hq⟩ (0 : Fin 2) * 512 + 512
      rw [e0]; dsimp only; omega
    | ⟨1, _⟩ =>
      show win0_2.index ⟨(i 0).val / 512, hq⟩ (1 : Fin 2) * 16 ≤ (i 1).val ∧ (i 1).val < win0_2.index ⟨(i 0).val / 512, hq⟩ (1 : Fin 2) * 16 + 16
      rw [e1]; omega

/-- The dispatch array, as words. -/
theorem final3 (c : Dev nD) : (dats m 0 c).arrAt 3 cfg0.N = dispArr (argX m c) (argW m c) := by
  refine (dats m 0 c).arrAt_eq_of_cover 3 _ (fun t _ => ?_) (fun i => ?_)
  · obtain ⟨-, -, -, ⟨e0, e1, e2⟩, -⟩ := idxs t
    show (cfg0.win 3).cut (grid0.coords t) ((dats m 0 c).after 3 t) = _
    rw [after0_3, (outs_eq m c t.val t.isLt).2.1]
    funext y
    have hy0 : (y 0).val < 512 := (y 0).isLt
    show k0_pay2 (blkPos (tokBlk (argX m c) t.val) (argW m c) (carryAt (argX m c) (argW m c) t.val)) y
      = dispArr (argX m c) (argW m c) (((cfg0.win 3).blk t).view.emb y)
    have hb0 : (((cfg0.win 3).blk t).view.emb y 0).val = win0_3.index t (0 : Fin 3) * 512 + 1 * (y 0).val := rfl
    have hb1 : (((cfg0.win 3).blk t).view.emb y 1).val = win0_3.index t (1 : Fin 3) * 16 + 1 * (y 1).val := rfl
    have hb2 : (((cfg0.win 3).blk t).view.emb y 2).val = win0_3.index t (2 : Fin 3) * 320 + 1 * (y 2).val := rfl
    unfold dispArr
    rw [show (((cfg0.win 3).blk t).view.emb y 0).val / 512 = t.val by rw [hb0, e0]; omega]
    congr 1
    funext a; apply Fin.ext
    match a with
    | ⟨0, _⟩ => show (y 0).val = (((cfg0.win 3).blk t).view.emb y 0).val % 512; rw [hb0]; omega
    | ⟨1, _⟩ => show (y 1).val = (((cfg0.win 3).blk t).view.emb y 1).val; rw [hb1, e1]; omega
    | ⟨2, _⟩ => show (y 2).val = (((cfg0.win 3).blk t).view.emb y 2).val; rw [hb2, e2]; omega
  · have hi0 : (i 0).val < 4096 := (i 0).isLt
    have hi1 : (i 1).val < 16 := (i 1).isLt
    have hi2 : (i 2).val < 320 := (i 2).isLt
    have hq : (i 0).val / 512 < grid0.N := by rw [N_0]; omega
    obtain ⟨-, -, -, ⟨e0, e1, e2⟩, -⟩ := idxs ⟨(i 0).val / 512, hq⟩
    refine ⟨⟨(i 0).val / 512, hq⟩, (flushes _).2.1, ?_⟩
    show i ∈ ((View.whole main_v0_1).slice (win0_3.rect ⟨(i 0).val / 512, hq⟩)).set
    rw [View.set_slice_whole, Rect.mem_set_unit]
    intro a
    match a with
    | ⟨0, _⟩ =>
      show win0_3.index ⟨(i 0).val / 512, hq⟩ (0 : Fin 3) * 512 ≤ (i 0).val ∧ (i 0).val < win0_3.index ⟨(i 0).val / 512, hq⟩ (0 : Fin 3) * 512 + 512
      rw [e0]; dsimp only; omega
    | ⟨1, _⟩ =>
      show win0_3.index ⟨(i 0).val / 512, hq⟩ (1 : Fin 3) * 16 ≤ (i 1).val ∧ (i 1).val < win0_3.index ⟨(i 0).val / 512, hq⟩ (1 : Fin 3) * 16 + 16
      rw [e1]; omega
    | ⟨2, _⟩ =>
      show win0_3.index ⟨(i 0).val / 512, hq⟩ (2 : Fin 3) * 320 ≤ (i 2).val ∧ (i 2).val < win0_3.index ⟨(i 0).val / 512, hq⟩ (2 : Fin 3) * 320 + 320
      rw [e2]; omega

/-- The combine array. -/
theorem final4 (c : Dev nD) : (dats m 0 c).arrAt 4 cfg0.N = combArr (argX m c) (argW m c) := by
  refine (dats m 0 c).arrAt_eq_of_cover 4 _ (fun t _ => ?_) (fun i => ?_)
  · obtain ⟨-, -, -, -, ⟨e0, e1, e2⟩, -⟩ := idxs t
    show (cfg0.win 4).cut (grid0.coords t) ((dats m 0 c).after 4 t) = _
    rw [after0_4, (outs_eq m c t.val t.isLt).2.2.1]
    funext y
    have hy0 : (y 0).val < 512 := (y 0).isLt
    show k0_pay3 (blkPos (tokBlk (argX m c) t.val) (argW m c) (carryAt (argX m c) (argW m c) t.val)) (blkWts (tokBlk (argX m c) t.val) (argW m c)) y
      = combArr (argX m c) (argW m c) (((cfg0.win 4).blk t).view.emb y)
    have hb0 : (((cfg0.win 4).blk t).view.emb y 0).val = win0_4.index t (0 : Fin 3) * 512 + 1 * (y 0).val := rfl
    have hb1 : (((cfg0.win 4).blk t).view.emb y 1).val = win0_4.index t (1 : Fin 3) * 16 + 1 * (y 1).val := rfl
    have hb2 : (((cfg0.win 4).blk t).view.emb y 2).val = win0_4.index t (2 : Fin 3) * 320 + 1 * (y 2).val := rfl
    unfold combArr
    rw [show (((cfg0.win 4).blk t).view.emb y 0).val / 512 = t.val by rw [hb0, e0]; omega]
    congr 1
    funext a; apply Fin.ext
    match a with
    | ⟨0, _⟩ => show (y 0).val = (((cfg0.win 4).blk t).view.emb y 0).val % 512; rw [hb0]; omega
    | ⟨1, _⟩ => show (y 1).val = (((cfg0.win 4).blk t).view.emb y 1).val; rw [hb1, e1]; omega
    | ⟨2, _⟩ => show (y 2).val = (((cfg0.win 4).blk t).view.emb y 2).val; rw [hb2, e2]; omega
  · have hi0 : (i 0).val < 4096 := (i 0).isLt
    have hi1 : (i 1).val < 16 := (i 1).isLt
    have hi2 : (i 2).val < 320 := (i 2).isLt
    have hq : (i 0).val / 512 < grid0.N := by rw [N_0]; omega
    obtain ⟨-, -, -, -, ⟨e0, e1, e2⟩, -⟩ := idxs ⟨(i 0).val / 512, hq⟩
    refine ⟨⟨(i 0).val / 512, hq⟩, (flushes _).2.2.1, ?_⟩
    show i ∈ ((View.whole main_v0_2).slice (win0_4.rect ⟨(i 0).val / 512, hq⟩)).set
    rw [View.set_slice_whole, Rect.mem_set_unit]
    intro a
    match a with
    | ⟨0, _⟩ =>
      show win0_4.index ⟨(i 0).val / 512, hq⟩ (0 : Fin 3) * 512 ≤ (i 0).val ∧ (i 0).val < win0_4.index ⟨(i 0).val / 512, hq⟩ (0 : Fin 3) * 512 + 512
      rw [e0]; dsimp only; omega
    | ⟨1, _⟩ =>
      show win0_4.index ⟨(i 0).val / 512, hq⟩ (1 : Fin 3) * 16 ≤ (i 1).val ∧ (i 1).val < win0_4.index ⟨(i 0).val / 512, hq⟩ (1 : Fin 3) * 16 + 16
      rw [e1]; omega
    | ⟨2, _⟩ =>
      show win0_4.index ⟨(i 0).val / 512, hq⟩ (2 : Fin 3) * 320 ≤ (i 2).val ∧ (i 2).val < win0_4.index ⟨(i 0).val / 512, hq⟩ (2 : Fin 3) * 320 + 320
      rw [e2]; omega

/-- The loss, in its 1×1 array. -/
theorem final5 (c : Dev nD) : (dats m 0 c).arrAt 5 cfg0.N = lossArr (argX m c) (argW m c) := by
  refine (dats m 0 c).arrAt_eq_of_cover 5 _ (fun t hf => ?_) (fun i => ?_)
  · obtain ⟨-, -, -, -, -, e0, e1⟩ := idxs t
    show (cfg0.win 5).cut (grid0.coords t) ((dats m 0 c).after 5 t) = _
    rw [after0_5, (outs_eq m c t.val t.isLt).2.2.2.1 ((flushes t).2.2.2.1 hf)]
    funext y
    show lossArr (argX m c) (argW m c) y = lossArr (argX m c) (argW m c) (((cfg0.win 5).blk t).view.emb y)
    congr 1
    funext a; apply Fin.ext
    match a with
    | ⟨0, _⟩ => show (y 0).val = win0_5.index t (0 : Fin 2) * 1 + 1 * (y 0).val; rw [e0]; omega
    | ⟨1, _⟩ => show (y 1).val = win0_5.index t (1 : Fin 2) * 1 + 1 * (y 1).val; rw [e1]; omega
  · have hi0 : (i 0).val < 1 := (i 0).isLt
    have hi1 : (i 1).val < 1 := (i 1).isLt
    have hq : 7 < grid0.N := by rw [N_0]; omega
    obtain ⟨-, -, -, -, -, e0, e1⟩ := idxs ⟨7, hq⟩
    refine ⟨⟨7, hq⟩, (flushes _).2.2.2.2 rfl, ?_⟩
    show i ∈ ((View.whole main_v0_3).slice (win0_5.rect ⟨7, hq⟩)).set
    rw [View.set_slice_whole, Rect.mem_set_unit]
    intro a
    match a with
    | ⟨0, _⟩ =>
      show win0_5.index ⟨7, hq⟩ (0 : Fin 2) * 1 ≤ (i 0).val ∧ (i 0).val < win0_5.index ⟨7, hq⟩ (0 : Fin 2) * 1 + 1
      rw [e0]; omega
    | ⟨1, _⟩ =>
      show win0_5.index ⟨7, hq⟩ (1 : Fin 2) * 1 ≤ (i 1).val ∧ (i 1).val < win0_5.index ⟨7, hq⟩ (1 : Fin 2) * 1 + 1
      rw [e1]; omega

/-! ## The run -/

/-- The dispatch indicator the program returns: the words compared with zero. -/
def dispBit (X : FVec F S4096x1024 .f32) (W : FVec F S16x1024 .f32) : IVec S4096x16x320 1 :=
  cmpi .ne (dispArr X W) (broadcastInDim S4096x16x320 ![] bcast_S_S4096x16x320 (constantI S_ 32 0#32))

/-- The loss the program returns: the 1×1 array as a scalar. -/
def lossOut (X : FVec F S4096x1024 .f32) (W : FVec F S16x1024 .f32) : FVec F S_ .f32 :=
  shapeCast S_ (lossArr X W) shapeCasts_S1x1_S_

/-- The lines after the region: the dispatch words compared with zero. -/
theorem tail_v3 (c : Dev nD) :
    Pipeline.afterTail₀ cfgs (dats m) 0 (V0 m) [hostOps1] c main_v3 = dispBit (argX m c) (argW m c) := by
  have e := Pipeline.withArrays_arr spec0 launch0.win.arr_inj c (V0 m c) (fun w => (dats m 0 c).arrAt w cfg0.N) 3
  show StableHlo.after hostOps1 _ (Proc.devRef .tc main_v3) = _
  after_results_simp
  unfold dispBit
  rw [← final3 m c, ← e]
  rfl

/-- The lines after the region: the loss reshaped to a scalar. -/
theorem tail_v4 (c : Dev nD) :
    Pipeline.afterTail₀ cfgs (dats m) 0 (V0 m) [hostOps1] c main_v4 = lossOut (argX m c) (argW m c) := by
  have e := Pipeline.withArrays_arr spec0 launch0.win.arr_inj c (V0 m c) (fun w => (dats m 0 c).arrAt w cfg0.N) 5
  show StableHlo.after hostOps1 _ (Proc.devRef .tc main_v4) = _
  after_results_simp
  unfold lossOut
  rw [← final5 m c, ← e]
  rfl

/-- Every run of the idealized kernel ends with the four results at these functions of the arguments, the arguments
    unchanged. -/
theorem run : θ_run defs (onTc (τ := τ) (main (F := F))) ⟨m, fun _ => 0, ρ⟩ fun r => ∀ c : Dev nD,
      r.2.mem ((c : Thread nD τ).loc main_v3) = dispBit (argX m c) (argW m c)
      ∧ r.2.mem ((c : Thread nD τ).loc main_v0_2) = combArr (argX m c) (argW m c)
      ∧ r.2.mem ((c : Thread nD τ).loc main_v0_0) = probsArr (argX m c) (argW m c)
      ∧ r.2.mem ((c : Thread nD τ).loc main_v4) = lossOut (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v3 (by decide)).trans (tail_v3 m c),
      ((h.1 c).1 4).trans (final4 m c),
      ((h.1 c).1 2).trans (final2 m c),
      ((h.1 c).2 main_v4 (by decide)).trans (tail_v4 m c),
      (h.2 c).1, (h.2 c).2⟩)
    (θ_run_and (run_main m ρ) (unchanged m ρ))

end Cert.KernelIdeal.Blocks

end
-- ==== Proof.Top2.lean ====
/- The two best of sixteen extended reals, ties to the lower position: what they are, that they exist, and how a repeated
   maximum and a stable sort each find them. -/
module

public import Idealize.ShloMosaic.PureOps.Ideal
public import Idealize.ShloMosaic.PureOps.Ideal.Laws
public import Idealize.ShloMosaic.Lib.SortFacts
public import Idealize.ShloMosaic.Lib.PlanTiles.StableSort

@[expose] public section

set_option maxRecDepth 16384

noncomputable section

namespace Cert.Router

open Idealize.ShloMosaic

/-- `a` holds the largest of the sixteen values and `b` the largest of the others, each the lowest such position. -/
structure IsTop2 (p : Fin 16 → EReal) (a b : Fin 16) : Prop where
  ne : b ≠ a
  first : ∀ e, p e < p a ∨ (p e = p a ∧ a ≤ e)
  second : ∀ e, e ≠ a → p e < p b ∨ (p e = p b ∧ b ≤ e)

/-- A nonempty set of positions has a best one. -/
theorem exists_best (p : Fin 16 → EReal) (s : Finset (Fin 16)) (hs : s.Nonempty) :
    ∃ a ∈ s, ∀ e ∈ s, p e < p a ∨ (p e = p a ∧ a ≤ e) := by
  obtain ⟨m, hm, hmax⟩ := Finset.exists_max_image s p hs
  have hs' : (s.filter fun e => p e = p m).Nonempty := ⟨m, by simp [hm]⟩
  obtain ⟨a, ha, hmin⟩ := Finset.exists_min_image _ id hs'
  rw [Finset.mem_filter] at ha
  refine ⟨a, ha.1, fun e he => ?_⟩
  rcases lt_or_eq_of_le (hmax e he) with h | h
  · exact Or.inl (ha.2 ▸ h)
  · exact Or.inr ⟨h.trans ha.2.symm, hmin e (by simp [he, h])⟩

/-- The two best positions exist. -/
theorem exists_isTop2 (p : Fin 16 → EReal) : ∃ ab : Fin 16 × Fin 16, IsTop2 p ab.1 ab.2 := by
  obtain ⟨a, -, ha⟩ := exists_best p Finset.univ ⟨0, Finset.mem_univ _⟩
  obtain ⟨b, hb, hb'⟩ := exists_best p (Finset.univ.erase a)
    ⟨if a = 0 then 1 else 0, by rw [Finset.mem_erase]; split <;> simp_all [eq_comm]⟩
  exact ⟨(a, b), (Finset.mem_erase.mp hb).1, fun e => ha e (Finset.mem_univ _), fun e he => hb' e (by simp [he])⟩

/-- The best position. -/
def best (p : Fin 16 → EReal) : Fin 16 := (exists_isTop2 p).choose.1

/-- The second best position. -/
def next (p : Fin 16 → EReal) : Fin 16 := (exists_isTop2 p).choose.2

/-- They are the two best. -/
theorem isTop2 (p : Fin 16 → EReal) : IsTop2 p (best p) (next p) := (exists_isTop2 p).choose_spec

theorem IsTop2.le_first {p : Fin 16 → EReal} {a b : Fin 16} (h : IsTop2 p a b) (e : Fin 16) : p e ≤ p a := by
  rcases h.first e with h | h
  · exact h.le
  · exact h.1.le

theorem IsTop2.le_second {p : Fin 16 → EReal} {a b : Fin 16} (h : IsTop2 p a b) (e : Fin 16) (he : e ≠ a) : p e ≤ p b := by
  rcases h.second e he with h | h
  · exact h.le
  · exact h.1.le

/-! ## The folds of a repeated maximum -/

/-- A maximum from `⊥` whose largest entry is known. -/
theorem fold_max_eq (g : Fin 16 → EReal) (a : Fin 16) (h : ∀ e, g e ≤ g a) :
    (Finset.univ : Finset (Fin 16)).fold max ⊥ g = g a := by
  apply le_antisymm
  · exact (Finset.fold_max_le _).mpr ⟨bot_le, fun e _ => h e⟩
  · exact (Finset.le_fold_max _).mpr (Or.inr ⟨a, Finset.mem_univ _, le_rfl⟩)

/-- The signed value of a signed minimum. -/
theorem toInt_minsi {w : ℕ} (x y : BitVec w) : (IntOp.minsi x y).toInt = min x.toInt y.toInt := by
  unfold IntOp.minsi
  rw [BitVec.slt]
  split
  · next h => rw [min_eq_left]; exact (by simpa using h : x.toInt < y.toInt).le
  · next h => rw [min_eq_right]; simpa using h

/-- A signed minimum whose least entry is known. -/
theorem fold_minsi_eq (g : Fin 16 → BitVec 32) (init : BitVec 32) (a : Fin 16) (hi : (g a).toInt ≤ init.toInt)
    (h : ∀ e, (g a).toInt ≤ (g e).toInt) : (Finset.univ : Finset (Fin 16)).fold IntOp.minsi init g = g a := by
  have key : ∀ s : Finset (Fin 16), (s.fold IntOp.minsi init g).toInt = s.fold min init.toInt fun e => (g e).toInt := by
    intro s
    induction s using Finset.induction_on with
    | empty => rfl
    | insert x s hx ih => rw [Finset.fold_insert hx, Finset.fold_insert hx, toInt_minsi, ih]
  apply BitVec.eq_of_toInt_eq
  rw [key]
  apply le_antisymm
  · exact (Finset.fold_min_le _).mpr (Or.inr ⟨a, Finset.mem_univ _, le_rfl⟩)
  · exact (Finset.le_fold_min _).mpr ⟨hi, fun e _ => h e⟩

/-- The signed value of a small number's word. -/
theorem toInt_ofNat (n : ℕ) (h : n < 2147483648) : (BitVec.ofNat 32 n).toInt = n := by
  rw [BitVec.toInt_ofNat']; simp only [Int.bmod]; omega

/-- The lowest position holding the maximum `v`, as the kernel finds it: the least of the position words where the value
    is `v`, and of `16` elsewhere. -/
theorem fold_pos_eq (g : Fin 16 → EReal) (v : EReal) (a : Fin 16) (ha : g a = v) (h : ∀ e, g e = v → a ≤ e) :
    (Finset.univ : Finset (Fin 16)).fold IntOp.minsi 2147483647#32
      (fun e => Scalar.select (BitVec.ofBool (decide (g e = v))) (BitVec.ofNat 32 e.val) 16#32) = BitVec.ofNat 32 a.val := by
  have hval : ∀ e : Fin 16, (Scalar.select (BitVec.ofBool (decide (g e = v))) (BitVec.ofNat 32 e.val) 16#32)
      = BitVec.ofNat 32 (if g e = v then e.val else 16) := by
    intro e
    by_cases he : g e = v <;> simp [he, Scalar.select]
  simp only [hval]
  have := fold_minsi_eq (fun e => BitVec.ofNat 32 (if g e = v then e.val else 16)) 2147483647#32 a ?_ ?_
  · rw [this, if_pos ha]
  · simp only [if_pos ha]
    rw [toInt_ofNat _ (by omega)]
    have : (2147483647#32 : BitVec 32).toInt = 2147483647 := by decide
    omega
  · intro e
    simp only [if_pos ha]
    rw [toInt_ofNat _ (by omega), toInt_ofNat _ (by split <;> omega)]
    split
    · next he => exact_mod_cast h e he
    · have := a.isLt; omega

/-! ## The stable sort -/

/-- How many entries lie below entry `k`. -/
def below (p : Fin 16 → EReal) (k : Fin 16) : ℕ := (Finset.univ.filter fun e => p e < p k).card

theorem below_lt_iff (p : Fin 16 → EReal) (k l : Fin 16) : below p k < below p l ↔ p k < p l := by
  constructor
  · intro h
    by_contra hc
    rw [not_lt] at hc
    refine absurd h (not_lt.mpr (Finset.card_le_card fun e he => ?_))
    simp only [Finset.mem_filter, Finset.mem_univ, true_and] at he ⊢
    exact lt_of_lt_of_le he hc
  · intro h
    apply Finset.card_lt_card
    refine ⟨fun e he => ?_, fun hc => ?_⟩
    · simp only [Finset.mem_filter, Finset.mem_univ, true_and] at he ⊢
      exact he.trans h
    · have := hc (show k ∈ _ by simpa using h)
      simp at this

theorem below_eq_iff (p : Fin 16 → EReal) (k l : Fin 16) : below p k = below p l ↔ p k = p l := by
  constructor
  · intro h
    rcases lt_trichotomy (p k) (p l) with h' | h' | h'
    · have := (below_lt_iff p k l).mpr h'; omega
    · exact h'
    · have := (below_lt_iff p l k).mpr h'; omega
  · intro h; unfold below; rw [h]

/-- The first two positions a stable sort by "greater" leaves are the two best. -/
theorem sortedFrom_top2 (p : Fin 16 → EReal) {a b : Fin 16} (h : IsTop2 p a b) (B : Fin 16 → Fin 16 → Bool)
    (hB : ∀ k l, B k l = decide (p l < p k)) : sortedFrom B 0 = a ∧ sortedFrom B 1 = b := by
  have hB' : B = fun k l => decide (below p l < below p k) := by
    funext k l; rw [hB]; simp only [below_lt_iff]
  have hpw : (sortPositions 16 B).Pairwise fun k l => p l < p k ∨ (p k = p l ∧ k < l) := by
    have := PlanTiles.pairwise_stableSort_lex (below p) (· < ·) (List.finRange 16) (List.pairwise_lt_finRange 16)
    rw [sortPositions, hB']
    exact this.imp fun {k l} h => by
      rcases h with h | ⟨h, h'⟩
      · exact Or.inl ((below_lt_iff p l k).mp h)
      · exact Or.inr ⟨(below_eq_iff p k l).mp h, h'⟩
  have hmono : ∀ i j : Fin 16, i < j → p (sortedFrom B j) < p (sortedFrom B i) ∨
      (p (sortedFrom B i) = p (sortedFrom B j) ∧ sortedFrom B i < sortedFrom B j) := by
    intro i j hij
    exact List.pairwise_iff_get.mp hpw _ _ (by simp only [Fin.lt_def, Fin.val_cast]; exact hij)
  have h0 : sortedFrom B 0 = a := by
    obtain ⟨i, hi⟩ := sortedFrom_surjective B a
    by_cases hi0 : i = 0
    · rw [← hi0]; exact hi
    · have hm := hmono 0 i (by rw [Fin.lt_def]; have : i.val ≠ 0 := fun hc => hi0 (Fin.ext hc); simp; omega)
      rw [hi] at hm
      rcases h.first (sortedFrom B 0) with h1 | ⟨h1, h2⟩ <;> rcases hm with h3 | ⟨h3, h4⟩
      · exact absurd (h1.trans h3) (lt_irrefl _)
      · exact absurd h3 h1.ne
      · exact absurd h1 h3.ne'
      · exact absurd h4 (not_lt.mpr h2)
  refine ⟨h0, ?_⟩
  obtain ⟨i, hi⟩ := sortedFrom_surjective B b
  have hi0 : i ≠ 0 := fun hc => h.ne (by rw [← hi, hc, h0])
  have h1a : sortedFrom B 1 ≠ a := fun hc => by
    have := sortedFrom_injective B (hc.trans h0.symm)
    exact absurd this (by decide)
  by_cases hi1 : i = 1
  · rw [← hi1]; exact hi
  · have hm := hmono 1 i (by
      rw [Fin.lt_def]
      have : i.val ≠ 0 := fun hc => hi0 (Fin.ext hc)
      have : i.val ≠ 1 := fun hc => hi1 (Fin.ext hc)
      show 1 < i.val
      omega)
    rw [hi] at hm
    rcases h.second (sortedFrom B 1) h1a with h1 | ⟨h1, h2⟩ <;> rcases hm with h3 | ⟨h3, h4⟩
    · exact absurd (h1.trans h3) (lt_irrefl _)
    · exact absurd h3 h1.ne
    · exact absurd h1 h3.ne'
    · exact absurd h4 (not_lt.mpr h2)

end Cert.Router

end
-- ==== Proof.Counts.lean ====
/- Counting how often each expert has been chosen, over tokens and over queue entries, and the sums of indicators that
   compute the counts. -/
module

public import proofs.«01_k».proof.Proof.Top2
public import Mathlib.Order.Interval.Finset.Nat

@[expose] public section

set_option maxRecDepth 16384

noncomputable section

namespace Cert.Router

open Idealize.ShloMosaic

/-! ## Counts -/

/-- How many of the tokens before `n` chose expert `e`, where token `s` chose `A s` and `B s`. -/
def cnt (A B : ℕ → Fin 16) (e : Fin 16) (n : ℕ) : ℕ := Nat.count (fun s => e = A s ∨ e = B s) n

theorem cnt_add (A B : ℕ → Fin 16) (e : Fin 16) (m n : ℕ) :
    cnt A B e (m + n) = cnt A B e m + cnt (fun s => A (m + s)) (fun s => B (m + s)) e n := by
  unfold cnt; rw [Nat.count_add]

/-- The expert of queue entry `f`: token `f / 2`'s first choice at even entries and its second at odd ones. -/
def entry (A B : ℕ → Fin 16) (f : ℕ) : Fin 16 := if f % 2 = 0 then A (f / 2) else B (f / 2)

theorem entry_even (A B : ℕ → Fin 16) (t : ℕ) : entry A B (2 * t) = A t := by
  unfold entry; rw [if_pos (by omega)]; congr 1; omega

theorem entry_odd (A B : ℕ → Fin 16) (t : ℕ) : entry A B (2 * t + 1) = B t := by
  unfold entry; rw [if_neg (by omega)]; congr 1; omega

/-- The queue entries of the tokens before `t` that hold `e` are the tokens before `t` that chose `e`. -/
theorem count_entry_even (A B : ℕ → Fin 16) (hne : ∀ s, B s ≠ A s) (e : Fin 16) (t : ℕ) :
    Nat.count (fun g => e = entry A B g) (2 * t) = cnt A B e t := by
  induction t with
  | zero => rfl
  | succ t ih =>
    rw [show 2 * (t + 1) = 2 * t + 1 + 1 by omega, Nat.count_succ, Nat.count_succ, ih, entry_even, entry_odd]
    unfold cnt
    rw [Nat.count_succ]
    have := hne t
    by_cases h1 : e = A t
    · have h2 : ¬ e = B t := fun h => this (h.symm.trans h1)
      simp [h1, Ne.symm this]
    · by_cases h2 : e = B t
      · simp [h2, this]
      · simp [h1, h2]

/-- The queue position of entry `f` is the number of earlier tokens that chose its expert. -/
theorem count_entry (A B : ℕ → Fin 16) (hne : ∀ s, B s ≠ A s) (f : ℕ) :
    Nat.count (fun g => entry A B f = entry A B g) f = cnt A B (entry A B f) (f / 2) := by
  rcases Nat.even_or_odd' f with ⟨t, rfl | rfl⟩
  · rw [count_entry_even A B hne]; congr 1; omega
  · rw [Nat.count_succ, count_entry_even A B hne, if_neg, Nat.add_zero]
    · congr 1; omega
    · rw [entry_even, entry_odd]; exact hne t

/-- A count of a prefix, as the number of the first `n` positions in it. -/
theorem card_prefix (q : ℕ → Prop) [DecidablePred q] (n r : ℕ) (h : r ≤ n) :
    ((Finset.univ : Finset (Fin n)).filter fun x => x.val < r ∧ q x.val).card = Nat.count q r := by
  rw [Nat.count_eq_card_filter_range]
  refine Finset.card_bij (fun x _ => x.val) (fun x hx => ?_) (fun x _ y _ hxy => Fin.ext hxy) (fun m hm => ?_)
  · simp only [Finset.mem_filter, Finset.mem_univ, true_and, Finset.mem_range] at hx ⊢; exact hx
  · simp only [Finset.mem_filter, Finset.mem_range] at hm
    exact ⟨⟨m, by omega⟩, by simpa using hm, rfl⟩

/-- The sum of a product of two indicators, the first of a prefix. -/
theorem sum_prefix (q : ℕ → Prop) [DecidablePred q] (n r : ℕ) (h : r < n) :
    (∑ x : Fin n, (if x.val ≤ r then (1 : EReal) else 0) * (if q x.val then 1 else 0)) = (Nat.count q (r + 1) : ℕ) := by
  rw [← card_prefix q n (r + 1) h, ← Finset.sum_boole]
  refine Finset.sum_congr rfl fun x _ => ?_
  by_cases h1 : x.val ≤ r <;> by_cases h2 : q x.val <;> simp [h1, h2, Nat.lt_succ_iff]

/-- The sum of an indicator. -/
theorem sum_all (q : ℕ → Prop) [DecidablePred q] (n : ℕ) :
    (∑ x : Fin n, (if q x.val then (1 : EReal) else 0)) = (Nat.count q n : ℕ) := by
  rw [← card_prefix q n n le_rfl, ← Finset.sum_boole]
  exact Finset.sum_congr rfl fun x _ => by simp [x.isLt]

/-! ## Words -/

theorem cmpi_eq_ofNat (m n : ℕ) (hm : m < 4294967296) (hn : n < 4294967296) :
    IntOp.cmpi .eq (BitVec.ofNat 32 m) (BitVec.ofNat 32 n) = BitVec.ofBool (decide (m = n)) := by
  show BitVec.ofBool (BitVec.ofNat 32 m == BitVec.ofNat 32 n) = _
  congr 1
  rw [Bool.eq_iff_iff, beq_iff_eq, decide_eq_true_iff]
  constructor
  · intro h
    have := congrArg BitVec.toNat h
    simp only [BitVec.toNat_ofNat] at this
    omega
  · intro h; rw [h]

theorem cmpi_eq_fin (e a : Fin 16) :
    IntOp.cmpi .eq (BitVec.ofNat 32 e.val) (BitVec.ofNat 32 a.val) = BitVec.ofBool (decide (e = a)) := by
  rw [cmpi_eq_ofNat _ _ (by omega) (by omega)]
  simp only [Fin.ext_iff]

theorem cmpi_sle_ofNat (m n : ℕ) (hm : m < 2147483648) (hn : n < 2147483648) :
    IntOp.cmpi .sle (BitVec.ofNat 32 m) (BitVec.ofNat 32 n) = BitVec.ofBool (decide (m ≤ n)) := by
  show BitVec.ofBool ((BitVec.ofNat 32 m).sle (BitVec.ofNat 32 n)) = _
  congr 1
  rw [Bool.eq_iff_iff, BitVec.sle_iff_toInt_le, decide_eq_true_iff, toInt_ofNat _ hm, toInt_ofNat _ hn]
  exact Int.ofNat_le

/-- The number of an indicator's word. -/
theorem sitofp_ofBool (b : Bool) :
    (FloatOps.sitofp (F := Ideal) .f32 (BitVec.setWidth 32 (BitVec.ofBool b)) : EReal) = if b then 1 else 0 := by
  show (((BitVec.setWidth 32 (BitVec.ofBool b)).toInt : ℝ) : EReal) = _
  cases b <;> simp

theorem select_ofBool {α : Type} (b : Bool) (x y : α) : Scalar.select (BitVec.ofBool b) x y = if b then x else y := by
  cases b <;> rfl

/-- A small natural number truncated to a word. -/
theorem fptosi_natCast (n : ℕ) (h : n < 2147483648) :
    FloatOps.fptosi (F := Ideal) (φ := .f32) 32 ((n : ℕ) : EReal) = BitVec.ofNat 32 n := by
  show Ideal.fptosi 32 (((n : ℕ) : ℝ) : EReal) = _
  unfold Ideal.fptosi
  rw [Ideal.toIntClamped_coe, if_pos (Nat.cast_nonneg n), Int.floor_natCast,
    show max (-((2 ^ (32 - 1) : ℕ) : Int)) (min (((2 ^ (32 - 1) : ℕ) : Int) - 1) (n : Int)) = (n : Int) by omega]
  rfl

end Cert.Router

end
-- ==== Proof.Payloads.lean ====
/- The kernel's per-block computations read at an index: the two best experts of each token and their weights, the queue
   positions inside the block, the carried counts, and what is stored. -/
module

public import proofs.«01_k».proof.Proof.Blocks
public import proofs.«01_k».proof.Proof.Counts
public import Idealize.ShloMosaic.Lib.Pointwise

@[expose] public section

set_option maxRecDepth 16384

noncomputable section

namespace Cert.KernelIdeal.Payloads

open Cert.KernelIdeal Cert.KernelIdeal.Gen Cert.KernelIdeal.Blocks Cert.Router Idealize.ShloMosaic

/-- The pattern of minus infinity is `⊥`. -/
theorem ofBits_negInf : Ideal.ofBits .f32 0xFF800000#32 = ⊥ := by simp [Ideal.ofBits, Ideal.ieee]

section Best

variable (x : Vec Ideal S512x1024 .f32) (w : Vec Ideal S16x1024 .f32)

/-- The probabilities of row `r` of a block. -/
def prob (r : Fin 512) (e : Fin 16) : EReal := k0_pay8 (F := Ideal) x w (ix2 r e)

/-- The softmax of the row's logits. -/
theorem prob_eq (r : Fin 512) (e : Fin 16) : prob x w r e =
    Ideal.div (Ideal.exp ((∑ k, x (ix2 r k) * w (ix2 e k)) - Finset.univ.fold max ⊥ fun e => ∑ k, x (ix2 r k) * w (ix2 e k)))
      (∑ e', Ideal.exp ((∑ k, x (ix2 r k) * w (ix2 e' k)) - Finset.univ.fold max ⊥ fun e => ∑ k, x (ix2 r k) * w (ix2 e k))) := by
  rw [← ofBits_negInf]
  unfold prob k0_pay8
  pointwise

/-- The largest probability of each row. -/
theorem pay9_eq (r : Fin 512) : k0_pay9 (F := Ideal) x w (ix2 r 0) = prob x w r (best (prob x w r)) := by
  rw [← fold_max_eq (prob x w r) _ (isTop2 _).le_first, ← ofBits_negInf]
  unfold k0_pay9 prob
  generalize k0_pay8 (F := Ideal) x w = P
  pointwise

/-- Its expert. -/
theorem pay10_eq (r : Fin 512) : k0_pay10 (F := Ideal) x w (ix2 r 0) = BitVec.ofNat 32 (best (prob x w r)).val := by
  have h := fold_pos_eq (prob x w r) (prob x w r (best (prob x w r))) (best (prob x w r)) rfl fun e he => by
    rcases (isTop2 (prob x w r)).first e with h | h
    · exact absurd he h.ne
    · exact h.2
  rw [← h, ← pay9_eq]
  unfold k0_pay10 prob
  generalize k0_pay8 (F := Ideal) x w = P
  generalize k0_pay9 (F := Ideal) x w = M
  pointwise

/-- The probabilities with the largest taken out. -/
theorem pay11_eq (r : Fin 512) (e : Fin 16) :
    k0_pay11 (F := Ideal) x w (ix2 r e) = if e = best (prob x w r) then ⊥ else prob x w r e := by
  have h : k0_pay11 (F := Ideal) x w (ix2 r e)
      = Scalar.select (IntOp.cmpi .eq (BitVec.ofNat 32 e.val) (k0_pay10 (F := Ideal) x w (ix2 r 0))) (Ideal.ofBits .f32 0xFF800000#32) (prob x w r e) := by
    unfold k0_pay11 prob
    generalize k0_pay8 (F := Ideal) x w = P
    generalize k0_pay10 (F := Ideal) x w = M
    pointwise
  rw [h, pay10_eq, cmpi_eq_fin, select_ofBool, ofBits_negInf]
  simp only [decide_eq_true_eq]

/-- The second largest probability of each row. -/
theorem pay12_eq (r : Fin 512) : k0_pay12 (F := Ideal) x w (ix2 r 0) = prob x w r (next (prob x w r)) := by
  have h2 := isTop2 (prob x w r)
  have h := fold_max_eq (fun e => k0_pay11 (F := Ideal) x w (ix2 r e)) (next (prob x w r)) fun e => by
    simp only [pay11_eq]
    rw [if_neg h2.ne]
    split
    · exact bot_le
    · next he => exact h2.le_second e he
  rw [pay11_eq, if_neg h2.ne] at h
  rw [← h, ← ofBits_negInf]
  unfold k0_pay12
  generalize k0_pay11 (F := Ideal) x w = P
  pointwise

/-- Its expert, when no probability is `⊥`. -/
theorem pay13_eq (r : Fin 512) (hpos : ∀ e, prob x w r e ≠ ⊥) :
    k0_pay13 (F := Ideal) x w (ix2 r 0) = BitVec.ofNat 32 (next (prob x w r)).val := by
  have h2 := isTop2 (prob x w r)
  have h := fold_pos_eq (fun e => k0_pay11 (F := Ideal) x w (ix2 r e)) (k0_pay12 (F := Ideal) x w (ix2 r 0)) (next (prob x w r))
    (by rw [pay12_eq, pay11_eq, if_neg h2.ne]) fun e he => by
      rw [pay12_eq, pay11_eq] at he
      split at he
      · exact absurd he.symm (hpos _)
      · next hne =>
        rcases h2.second e hne with h | h
        · exact absurd he h.ne
        · exact h.2
  rw [← h]
  unfold k0_pay13
  generalize k0_pay11 (F := Ideal) x w = P
  generalize k0_pay12 (F := Ideal) x w = M
  pointwise

/-- The weights of the two experts. -/
theorem blkWts_eq (r : Fin 512) (e : Fin 16) :
    blkWts (F := Ideal) x w (ix2 r e) =
      if e = best (prob x w r) then
        Ideal.div (prob x w r (best (prob x w r))) (prob x w r (best (prob x w r)) + prob x w r (next (prob x w r)))
      else Ideal.div (prob x w r (next (prob x w r))) (prob x w r (best (prob x w r)) + prob x w r (next (prob x w r))) := by
  have h : blkWts (F := Ideal) x w (ix2 r e) =
      Scalar.select (IntOp.cmpi .eq (BitVec.ofNat 32 e.val) (k0_pay10 (F := Ideal) x w (ix2 r 0)))
        (Ideal.div (k0_pay9 (F := Ideal) x w (ix2 r 0)) (k0_pay9 (F := Ideal) x w (ix2 r 0) + k0_pay12 (F := Ideal) x w (ix2 r 0)))
        (Ideal.div (k0_pay12 (F := Ideal) x w (ix2 r 0)) (k0_pay9 (F := Ideal) x w (ix2 r 0) + k0_pay12 (F := Ideal) x w (ix2 r 0))) := by
    unfold blkWts k0_pay22 cols k0_pay15 k0_pay14
    generalize k0_pay9 (F := Ideal) x w = P
    generalize k0_pay10 (F := Ideal) x w = Q
    generalize k0_pay12 (F := Ideal) x w = M
    pointwise
  rw [h, pay9_eq, pay10_eq, pay12_eq, cmpi_eq_fin, select_ofBool]
  simp only [decide_eq_true_eq]

end Best

section Count

variable (E1 E2 : IVec S512x1 32) (a b : ℕ → Fin 16)

/-- The indicator of a chosen expert. -/
theorem pay16_eq (h1 : ∀ r : Fin 512, E1 (ix2 r 0) = BitVec.ofNat 32 (a r.val).val) (r : Fin 512) (e : Fin 16) :
    k0_pay16 (F := Ideal) cols E1 (ix2 r e) = if e = a r.val then 1 else 0 := by
  have h : k0_pay16 (F := Ideal) cols E1 (ix2 r e) = FloatOps.sitofp (F := Ideal) .f32 (BitVec.setWidth 32 (IntOp.cmpi .eq (BitVec.ofNat 32 e.val) (E1 (ix2 r 0)))) := by
    unfold k0_pay16 cols
    pointwise
  rw [h, h1, cmpi_eq_fin]
  refine (sitofp_ofBool _).trans ?_
  simp only [decide_eq_true_eq]

theorem pay17_eq (h2 : ∀ r : Fin 512, E2 (ix2 r 0) = BitVec.ofNat 32 (b r.val).val) (r : Fin 512) (e : Fin 16) :
    k0_pay17 (F := Ideal) cols E2 (ix2 r e) = if e = b r.val then 1 else 0 := pay16_eq E2 b h2 r e

/-- The indicator of being one of the two experts. -/
theorem pay18_eq (h1 : ∀ r : Fin 512, E1 (ix2 r 0) = BitVec.ofNat 32 (a r.val).val)
    (h2 : ∀ r : Fin 512, E2 (ix2 r 0) = BitVec.ofNat 32 (b r.val).val) (hne : ∀ r, b r ≠ a r) (r : Fin 512) (e : Fin 16) :
    k0_pay18 (F := Ideal) cols E1 E2 (ix2 r e) = if e = a r.val ∨ e = b r.val then 1 else 0 := by
  have h : k0_pay18 (F := Ideal) cols E1 E2 (ix2 r e) = k0_pay16 (F := Ideal) cols E1 (ix2 r e) + k0_pay17 (F := Ideal) cols E2 (ix2 r e) := by
    unfold k0_pay18
    rfl
  rw [h, pay16_eq E1 a h1, pay17_eq E2 b h2]
  have := hne r.val
  by_cases ha : e = a r.val
  · have hb : e ≠ b r.val := fun hb => this (hb.symm.trans ha)
    simp [ha, Ne.symm this]
  · simp [ha]

/-- The counts inside the block, the row itself included. -/
theorem pay19_eq (h1 : ∀ r : Fin 512, E1 (ix2 r 0) = BitVec.ofNat 32 (a r.val).val)
    (h2 : ∀ r : Fin 512, E2 (ix2 r 0) = BitVec.ofNat 32 (b r.val).val) (hne : ∀ r, b r ≠ a r) (r : Fin 512) (e : Fin 16) :
    k0_pay19 (F := Ideal) cols E1 E2 (ix2 r e) = ((cnt a b e (r.val + 1) : ℕ) : EReal) := by
  have h : k0_pay19 (F := Ideal) cols E1 E2 (ix2 r e) = ∑ q : Fin 512,
      FloatOps.sitofp (F := Ideal) .f32 (BitVec.setWidth 32 (IntOp.cmpi .sle (BitVec.ofNat 32 q.val) (BitVec.ofNat 32 r.val)))
        * k0_pay18 (F := Ideal) cols E1 E2 (ix2 q e) := by
    unfold k0_pay19
    generalize k0_pay18 (F := Ideal) cols E1 E2 = P
    pointwise
  rw [h]
  unfold cnt
  rw [← sum_prefix _ 512 r.val r.isLt]
  refine Finset.sum_congr rfl fun q _ => ?_
  rw [pay18_eq E1 E2 a b h1 h2 hne, cmpi_sle_ofNat _ _ (by omega) (by omega)]
  congr 1
  refine (sitofp_ofBool _).trans ?_
  simp only [decide_eq_true_eq]

/-- The counts carried out of the block. -/
theorem pay20_eq (h1 : ∀ r : Fin 512, E1 (ix2 r 0) = BitVec.ofNat 32 (a r.val).val)
    (h2 : ∀ r : Fin 512, E2 (ix2 r 0) = BitVec.ofNat 32 (b r.val).val) (hne : ∀ r, b r ≠ a r) (C : Vec Ideal S1x16 .f32)
    (c : Fin 16 → ℕ) (hC : ∀ e, C (ix2 0 e) = ((c e : ℕ) : EReal)) (e : Fin 16) :
    k0_pay20 (F := Ideal) cols E1 E2 C (ix2 0 e) = ((c e + cnt a b e 512 : ℕ) : EReal) := by
  have h : k0_pay20 (F := Ideal) cols E1 E2 C (ix2 0 e) = C (ix2 0 e) + k0_pay19 (F := Ideal) cols E1 E2 (ix2 511 e) := by
    unfold k0_pay20
    generalize k0_pay19 (F := Ideal) cols E1 E2 = P
    pointwise
  rw [h, hC, pay19_eq E1 E2 a b h1 h2 hne, Nat.cast_add]
  rfl

/-- The position of a chosen expert: the counts before the row. -/
theorem pos_term (c k : ℕ) : ((c : ℕ) : EReal) + (((k + 1 : ℕ) : EReal) - 1) = ((c + k : ℕ) : EReal) := by
  have : (((k + 1 : ℕ) : EReal) - 1) = ((k : ℕ) : EReal) := by
    have h : (((k + 1 : ℕ) : ℝ) : EReal) - ((1 : ℝ) : EReal) = ((k : ℝ) : EReal) := by
      rw [← EReal.coe_sub]; congr 1; push_cast; ring
    exact h
  rw [this, Nat.cast_add]

/-- The position words: at a chosen expert the count before the row, elsewhere minus one. -/
theorem pay21_eq (h1 : ∀ r : Fin 512, E1 (ix2 r 0) = BitVec.ofNat 32 (a r.val).val)
    (h2 : ∀ r : Fin 512, E2 (ix2 r 0) = BitVec.ofNat 32 (b r.val).val) (hne : ∀ r, b r ≠ a r) (C : Vec Ideal S1x16 .f32)
    (c : Fin 16 → ℕ) (hC : ∀ e, C (ix2 0 e) = ((c e : ℕ) : EReal)) (hc : ∀ e, c e ≤ 4096) (r : Fin 512) (e : Fin 16) :
    k0_pay21 (F := Ideal) cols E1 E2 C (ix2 r e)
      = if e = a r.val ∨ e = b r.val then BitVec.ofNat 32 (c e + cnt a b e r.val) else 4294967295#32 := by
  have h : k0_pay21 (F := Ideal) cols E1 E2 C (ix2 r e) =
      Scalar.select (IntOp.cmpi .eq (BitVec.ofNat 32 e.val) (E1 (ix2 r 0)))
      (FloatOps.fptosi (F := Ideal) (φ := .f32) 32 (∑ q : Fin 16,
          (C (ix2 0 q) + (k0_pay19 (F := Ideal) cols E1 E2 (ix2 r q) - k0_pay18 (F := Ideal) cols E1 E2 (ix2 r q)))
            * k0_pay16 (F := Ideal) cols E1 (ix2 r q)))
      (Scalar.select (IntOp.cmpi .eq (BitVec.ofNat 32 e.val) (E2 (ix2 r 0)))
        (FloatOps.fptosi (F := Ideal) (φ := .f32) 32 (∑ q : Fin 16,
          (C (ix2 0 q) + (k0_pay19 (F := Ideal) cols E1 E2 (ix2 r q) - k0_pay18 (F := Ideal) cols E1 E2 (ix2 r q)))
            * k0_pay17 (F := Ideal) cols E2 (ix2 r q)))
        4294967295#32) := by
    unfold k0_pay21
    generalize k0_pay19 (F := Ideal) cols E1 E2 = P19
    generalize k0_pay18 (F := Ideal) cols E1 E2 = P18
    generalize k0_pay17 (F := Ideal) cols E2 = P17
    generalize k0_pay16 (F := Ideal) cols E1 = P16
    unfold cols
    pointwise
  have hsum : ∀ d : Fin 16, (d = a r.val ∨ d = b r.val) → (∑ q : Fin 16,
          (C (ix2 0 q) + (k0_pay19 (F := Ideal) cols E1 E2 (ix2 r q) - k0_pay18 (F := Ideal) cols E1 E2 (ix2 r q)))
            * (if q = d then (1 : EReal) else 0)) = ((c d + cnt a b d r.val : ℕ) : EReal) := by
    intro d hd
    simp only [mul_ite, mul_one, mul_zero, Finset.sum_ite_eq', Finset.mem_univ, if_true]
    rw [hC, pay19_eq E1 E2 a b h1 h2 hne, pay18_eq E1 E2 a b h1 h2 hne, if_pos hd, ← pos_term]
    have : cnt a b d (r.val + 1) = cnt a b d r.val + 1 := by
      unfold cnt; rw [Nat.count_succ, if_pos hd]
    rw [this]
  have hle : ∀ d, cnt a b d r.val ≤ 512 := fun d => (Nat.count_le _).trans r.isLt.le
  rw [h, h1, h2, cmpi_eq_fin, cmpi_eq_fin, select_ofBool, select_ofBool]
  simp only [pay16_eq E1 a h1, pay17_eq E2 b h2, decide_eq_true_eq]
  by_cases ha : e = a r.val
  · rw [if_pos ha, if_pos (Or.inl ha), hsum _ (Or.inl rfl), fptosi_natCast _ (by have := hle (a r.val); have := hc (a r.val); omega), ha]
  · rw [if_neg ha]
    by_cases hb : e = b r.val
    · rw [if_pos hb, if_pos (Or.inr hb), hsum _ (Or.inr rfl), fptosi_natCast _ (by have := hle (b r.val); have := hc (b r.val); omega), hb]
    · rw [if_neg hb, if_neg (by simp [ha, hb])]

end Count

section Stores

/-- The stored indicator: the position word is the slot. -/
theorem pay2_eq (p : IVec S512x16 32) (r : Fin 512) (e : Fin 16) (c : Fin 320) :
    k0_pay2 p (ix3 r e c) = BitVec.setWidth 32 (IntOp.cmpi .eq (BitVec.ofNat 32 c.val) (p (ix2 r e))) := by
  unfold k0_pay2 k0_pay1
  pointwise

/-- The stored weight: the weight at that slot, zero at the others. -/
theorem pay3_eq (p : IVec S512x16 32) (v : FVec Ideal S512x16 .f32) (r : Fin 512) (e : Fin 16) (c : Fin 320) :
    k0_pay3 (F := Ideal) p v (ix3 r e c) = Scalar.select (IntOp.cmpi .eq (BitVec.ofNat 32 c.val) (p (ix2 r e))) (v (ix2 r e)) 0 := by
  unfold k0_pay3 k0_pay1
  pointwise

/-- The probability sums carried out of the block. -/
theorem pay4_eq (v : FVec Ideal S512x16 .f32) (s : Vec Ideal S1x16 .f32) (e : Fin 16) :
    k0_pay4 (F := Ideal) v s (ix2 0 e) = s (ix2 0 e) + ∑ r, v (ix2 r e) := by
  unfold k0_pay4
  pointwise

/-- The loss of the two sums. -/
theorem pay5_eq (f s : Vec Ideal S1x16 .f32) :
    k0_pay5 (F := Ideal) f s (ix2 0 0) = Ideal.ofBits .f32 0x3E23D70A#32 *
      ∑ e : Fin 16, Ideal.div (f (ix2 0 e)) (Ideal.ofBits .f32 0x46000000#32) * Ideal.div (s (ix2 0 e)) (Ideal.ofBits .f32 0x45800000#32) := by
  unfold k0_pay5
  pointwise
  simp only [Finset.univ_unique, Finset.sum_singleton]

end Stores

end Cert.KernelIdeal.Payloads

end
-- ==== Proof.RefStages.lean ====
/- The reference's run read stage by stage: each named stage is one step of the plain mathematics (the softmax, the two
   best experts, their weights, the queue positions, the two scatters, the balancing loss), and the results of the run
   are the last stages. -/
module

public import proofs.«01_k».proof.Proof.Gen.ReferenceIdeal.Run

@[expose] public section

set_option maxRecDepth 16384

noncomputable section

namespace Cert.ReferenceIdeal.Stages

open Cert.ReferenceIdeal Cert.ReferenceIdeal.Gen Idealize.ShloMosaic Idealize.ShloMosaic.TcCoe Idealize.SL.Sem
open Idealize.ShloMosaic.StableHlo

variable {F : FTy → Type} [FloatOps F]

/-- The logits. -/
def logits (X : FVec F S4096x1024 .f32) (W : FVec F S16x1024 .f32) : FVec F S4096x16 .f32 :=
  Host.dotGeneral dot_S4096x1024_S1024x16_S4096x16_1_0_0_1_n_n none X (transpose S1024x16 [1, 0] W transposes_S16x1024_S1024x16_1_0)

/-- The largest logit of each token. -/
def rowMax (L : FVec F S4096x16 .f32) : FVec F S4096 .f32 :=
  maximumf (broadcastInDim S4096 ![] bcast_S_S4096 (constant S_ .f32 0xFF800000#32)) (Host.reduce FloatOps.maximumf L (constant S_ .f32 0xFF800000#32) reducesTo_S4096x16_S4096_d1 h_S_)

/-- A per-token column repeated over the sixteen experts. -/
def wide (x : FVec F S4096 .f32) : FVec F S4096x16 .f32 :=
  broadcastInDim S4096x16 ![0, 1] bcast_S4096x1_S4096x16_0_1 (broadcastInDim S4096x1 ![0] bcast_S4096_S4096x1_0 x)

/-- The exponentials of the shifted logits. -/
def exps (L : FVec F S4096x16 .f32) : FVec F S4096x16 .f32 := Host.exp (subf L (wide (rowMax L)))

/-- The softmax of the logits. -/
def soft (L : FVec F S4096x16 .f32) : FVec F S4096x16 .f32 :=
  Host.divf (exps L) (wide (Host.reduceAdd (exps L) (constant S_ .f32 0x00000000#32) reducesTo_S4096x16_S4096_d1 h_S_))

/-- The two largest probabilities of each token. -/
def vals (P : FVec F S4096x16 .f32) : FVec F S4096x2 .f32 :=
  (Host.topK S4096x2 1 (FloatOps.cmpfTotal .gt) P sliceFits_S4096x16_S4096x2).1

/-- The experts of the two largest probabilities of each token. -/
def idxs (P : FVec F S4096x16 .f32) : IVec S4096x2 32 :=
  (Host.topK S4096x2 1 (FloatOps.cmpfTotal .gt) P sliceFits_S4096x16_S4096x2).2

/-- The weights of the two experts. -/
def wts (V : FVec F S4096x2 .f32) : FVec F S4096x2 .f32 :=
  Host.divf V (broadcastInDim S4096x2 ![0, 1] bcast_S4096x1_S4096x2_0_1 (broadcastInDim S4096x1 ![0] bcast_S4096_S4096x1_0 (Host.reduceAdd V (constant S_ .f32 0x00000000#32) reducesTo_S4096x2_S4096_d1 h_S_)))

/-- The chosen experts in queue order. -/
def flat (I : IVec S4096x2 32) : IVec S8192 32 := shapeCast S8192 I shapeCasts_S4096x2_S8192

/-- The one-hot rows of the chosen experts. -/
def hot (E : IVec S8192 32) : IVec S8192x16 32 :=
  extui 32 (cmpi .eq (broadcastInDim S8192x16 ![0, 1] bcast_S8192x1_S8192x16_0_1 (broadcastInDim S8192x1 ![0] bcast_S8192_S8192x1_0 E)) (broadcastInDim S8192x16 ![0, 1] bcast_S1x16_S8192x16_0_1 (iotaInDim S1x16 32 1))) natLt_1_32

/-- The running counts of the experts, each entry included. -/
def cums (H : IVec S8192x16 32) : IVec S8192x16 32 :=
  Host.reduceWindow IntOp.addi ![8192, 1] ![1, 1] ![8191, 0] ![0, 0] H (broadcastInDim S_ ![] bcast_S_S_ (constantI S_ 32 0#32)) reduceWindows_S8192x16_S8192x16_w8192s1p8191_0_w1s1p0_0 h_S_

/-- The queue positions. -/
def queue (H : IVec S8192x16 32) : IVec S8192 32 :=
  subi (Host.reduce IntOp.addi (muli (cums H) H) (constantI S_ 32 0#32) reducesTo_S8192x16_S8192_d1 h_S_) (broadcastInDim S8192 ![] bcast_S_S8192 (constantI S_ 32 1#32))

/-- The token of each queue entry. -/
def toks : IVec S8192 32 :=
  select (andi (cmpi .ne (signi (iotaInDim S8192 32 0)) (broadcastInDim S8192 ![] bcast_S_S8192 (signi (id (constantI S_ 32 2#32))))) (cmpi .ne (Host.remsi (iotaInDim S8192 32 0) (broadcastInDim S8192 ![] bcast_S_S8192 (id (constantI S_ 32 2#32)))) (broadcastInDim S8192 ![] bcast_S_S8192 (constantI S_ 32 0#32)))) (subi (Host.divsi (iotaInDim S8192 32 0) (broadcastInDim S8192 ![] bcast_S_S8192 (id (constantI S_ 32 2#32)))) (broadcastInDim S8192 ![] bcast_S_S8192 (constantI S_ 32 1#32))) (Host.divsi (iotaInDim S8192 32 0) (broadcastInDim S8192 ![] bcast_S_S8192 (id (constantI S_ 32 2#32))))

/-- An index counted from the end of an axis of length `n` when it is negative. -/
def wrap (n : BitVec 32) (x : IVec S8192 32) : IVec S8192 32 :=
  select (cmpi .slt x (broadcastInDim S8192 ![] bcast_S_S8192 (constantI S_ 32 0#32))) (addi x (broadcastInDim S8192 ![] bcast_S_S8192 (constantI S_ 32 n))) x

/-- A vector of words as a column. -/
def col (x : IVec S8192 32) : IVec S8192x1 32 := broadcastInDim S8192x1 ![0] bcast_S8192_S8192x1_0 x

/-- The scatter's index triples. -/
def triples (E Q : IVec S8192 32) : IVec S8192x3 32 :=
  concatenate S8192x3 1 [⟨S8192x1, col (wrap 4096#32 toks)⟩, ⟨S8192x1, col (wrap 16#32 E)⟩, ⟨S8192x1, col (wrap 320#32 Q)⟩] concatenates_S8192x1_S8192x1_S8192x1_S8192x3_d1

/-- The dispatch indicator. -/
def disp (E Q : IVec S8192 32) : IVec S4096x16x320 1 :=
  Host.scatter scatter_S4096x16x320_S8192x3_S8192_n_012_012_1 (fun _ b => b) (broadcastInDim S4096x16x320 ![] bcast_S_S4096x16x320 (constantI S_ 1 0#1)) (triples E Q) (broadcastInDim S8192 ![] bcast_S_S8192 (constantI S_ 1 1#1))

/-- The combine weights. -/
def comb (E Q : IVec S8192 32) (V : FVec F S4096x2 .f32) : FVec F S4096x16x320 .f32 :=
  Host.scatter scatter_S4096x16x320_S8192x3_S8192_n_012_012_1 (fun _ b => b) (broadcastInDim S4096x16x320 ![] bcast_S_S4096x16x320 (constant S_ .f32 0x00000000#32)) (triples E Q) (shapeCast S8192 V shapeCasts_S4096x2_S8192)

/-- How often each expert is chosen, as a number. -/
def freq (I : IVec S4096x2 32) : FVec F S16 .f32 :=
  Host.reduceAdd (uitofp .f32 (cmpi .eq (broadcastInDim S4096x2x16 ![0, 1, 2] bcast_S4096x2x1_S4096x2x16_0_1_2 (broadcastInDim S4096x2x1 ![0, 1] bcast_S4096x2_S4096x2x1_0_1 I)) (broadcastInDim S4096x2x16 ![0, 1, 2] bcast_S1x1x16_S4096x2x16_0_1_2 (broadcastInDim S1x1x16 ![2] bcast_S16_S1x1x16_2 (iotaInDim S16 32 0))))) (constant S_ .f32 0x00000000#32) reducesTo_S4096x2x16_S16_d0_1 h_S_

/-- The column sums of the probabilities. -/
def colSum (P : FVec F S4096x16 .f32) : FVec F S16 .f32 :=
  Host.reduceAdd P (constant S_ .f32 0x00000000#32) reducesTo_S4096x16_S16_d0 h_S_

/-- The balancing loss of the expert frequencies and the probability sums. -/
def lossOf (f p : FVec F S16 .f32) : FVec F S_ .f32 :=
  mulf (constant S_ .f32 0x3E23D70A#32) (Host.reduceAdd (mulf (Host.divf f (broadcastInDim S16 ![] bcast_S_S16 (constant S_ .f32 0x46000000#32))) (Host.divf p (broadcastInDim S16 ![] bcast_S_S16 (constant S_ .f32 0x45800000#32)))) (constant S_ .f32 0x00000000#32) reducesTo_S16_S_d0 h_S_)

/-- The softmax of the arguments. -/
def probs (X : FVec F S4096x1024 .f32) (W : FVec F S16x1024 .f32) : FVec F S4096x16 .f32 := soft (logits X W)

/-- The dispatch indicator of the probabilities. -/
def dispOf (P : FVec F S4096x16 .f32) : IVec S4096x16x320 1 := disp (flat (idxs P)) (queue (hot (flat (idxs P))))

/-- The combine weights of the probabilities. -/
def combOf (P : FVec F S4096x16 .f32) : FVec F S4096x16x320 .f32 := comb (flat (idxs P)) (queue (hot (flat (idxs P)))) (wts (vals P))

/-- The loss of the probabilities. -/
def lossP (P : FVec F S4096x16 .f32) : FVec F S_ .f32 := lossOf (freq (idxs P)) (colSum P)

/-- The activations among the reference's arguments. -/
def argX (m : (ℓ : Loc nD τ sig) → Buf (Elt F) ℓ) (c : Dev nD) : FVec F S4096x1024 .f32 := m ((c.tc : Thread nD τ).loc main_arg0)

/-- The router's weights among the reference's arguments. -/
def argW (m : (ℓ : Loc nD τ sig) → Buf (Elt F) ℓ) (c : Dev nD) : FVec F S16x1024 .f32 := m ((c.tc : Thread nD τ).loc main_arg1)

set_option maxHeartbeats 4000000 in
/-- The dispatch indicator of the run is its stage. -/
theorem out0_eq (m : (ℓ : Loc nD τ sig) → Buf (Elt F) ℓ) (c : Dev nD) :
    Value.res_main_v47 m c = dispOf (probs (argX m c) (argW m c)) := rfl

set_option maxHeartbeats 4000000 in
/-- The combine weights of the run are their stage. -/
theorem out1_eq (m : (ℓ : Loc nD τ sig) → Buf (Elt F) ℓ) (c : Dev nD) :
    Value.res_main_v69 m c = combOf (probs (argX m c) (argW m c)) := rfl

set_option maxHeartbeats 4000000 in
/-- The loss of the run is its stage. -/
theorem out3_eq (m : (ℓ : Loc nD τ sig) → Buf (Elt F) ℓ) (c : Dev nD) :
    Value.res_main_v85 m c = lossP (probs (argX m c) (argW m c)) := rfl

/-- The reference's run: every result is a stage of the arguments, and the arguments stay. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = dispOf (probs (argX m c) (argW m c))
      ∧ r.2.mem ((c.tc : Thread nD τ).loc main_v69) = combOf (probs (argX m c) (argW m c))
      ∧ r.2.mem ((c.tc : Thread nD τ).loc main_v12) = probs (argX m c) (argW m c)
      ∧ r.2.mem ((c.tc : Thread nD τ).loc main_v85) = lossP (probs (argX m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out0_eq m c), (h c).2.1.trans (out1_eq m c), (h c).2.2.1.trans rfl,
    (h c).2.2.2.1.trans (out3_eq m c), (h c).2.2.2.2.1, (h c).2.2.2.2.2⟩) (Value.run m ρ)

end Cert.ReferenceIdeal.Stages

end
-- ==== Proof.RefReads.lean ====
/- The reference's stages read at an index: the softmax, the two best experts and their weights, the queue, the two
   scatters, and the loss. -/
module

public import proofs.«01_k».proof.Proof.RefStages
public import proofs.«01_k».proof.Proof.Counts
public import Idealize.ShloMosaic.Lib.Pointwise
public import Idealize.ShloMosaic.Lib.Routing.Ops
public import Idealize.ShloMosaic.Lib.Routing.OpsSet
public import Idealize.ShloMosaic.Lib.Routing.OpsPair
public import Idealize.ShloMosaic.Lib.Routing.Words
public import proofs.«01_k».proof.Proof.Top2

@[expose] public section

set_option maxRecDepth 16384

noncomputable section

namespace Cert.ReferenceIdeal.Reads

open Cert.ReferenceIdeal Cert.ReferenceIdeal.Gen Cert.ReferenceIdeal.Stages Cert.Router Idealize.ShloMosaic

/-- The pattern of minus infinity is `⊥`. -/
theorem ofBits_negInf : Ideal.ofBits .f32 0xFF800000#32 = ⊥ := by simp [Ideal.ofBits, Ideal.ieee]

/-- The softmax of a token's logits. -/
theorem probs_eq (x : FVec Ideal S4096x1024 .f32) (w : FVec Ideal S16x1024 .f32) (t : Fin 4096) (e : Fin 16) :
    probs (F := Ideal) x w (ix2 t e) =
    Ideal.div (Ideal.exp ((∑ k, x (ix2 t k) * w (ix2 e k)) - Finset.univ.fold max ⊥ fun e => ∑ k, x (ix2 t k) * w (ix2 e k)))
      (∑ e', Ideal.exp ((∑ k, x (ix2 t k) * w (ix2 e' k)) - Finset.univ.fold max ⊥ fun e => ∑ k, x (ix2 t k) * w (ix2 e k))) := by
  unfold probs soft exps rowMax wide logits
  pointwise
  rw [ofBits_negInf]
  simp only [max_eq_right bot_le]

section Choice

variable (P : FVec Ideal S4096x16 .f32)

/-- Row `t` of the probabilities. -/
def row (t : Fin 4096) (e : Fin 16) : EReal := P (ix2 t e)

/-- The expert of choice `k` of token `t`. -/
def choice (t : Fin 4096) (k : Fin 2) : Fin 16 := if k = 0 then best (row P t) else next (row P t)

theorem topK_pos (t : Fin 4096) (k : Fin 2) (B : Fin 16 → Fin 16 → Bool) (hB : ∀ i j, B i j = decide (row P t j < row P t i))
    (q : Fin 16) (hq : q.val = k.val) : sortedFrom B q = choice P t k := by
  have h := sortedFrom_top2 (row P t) (isTop2 _) B hB
  unfold choice
  fin_cases k
  · rw [show q = 0 from Fin.ext hq]; exact h.1
  · rw [show q = 1 from Fin.ext hq]; exact h.2

/-- A row of the probabilities read along its axis. -/
theorem along_row (j : S4096x16.Idx) (t : Fin 4096) (hj : (j 0).val = t.val) (k : Fin 16) : j.along 1 k = ix2 t k := by
  funext b
  unfold Shape.Idx.along
  match b with
  | ⟨0, _⟩ => exact (Function.update_of_ne (fun h => absurd (congrArg Fin.val h) Nat.zero_ne_one) _ _).trans (Fin.ext hj)
  | ⟨1, _⟩ => exact Function.update_self _ _ _

/-- Where the sort of row `t` finds its `k`-th element. -/
theorem pos_eq (j : S4096x16.Idx) (t : Fin 4096) (hj : (j 0).val = t.val) (k : Fin 2) (hk : (j 1).val = k.val) :
    sortedFrom (fun i i' : Fin 16 => FloatOps.cmpfTotal (F := Ideal) .gt (P (j.along 1 i)) (P (j.along 1 i')) == 1#1) (j 1) = choice P t k := by
  refine topK_pos P t k _ (fun i i' => ?_) (j 1) hk
  rw [along_row j t hj, along_row j t hj]
  show (BitVec.ofBool (decide (P (ix2 t i') < P (ix2 t i))) == 1#1) = _
  unfold row
  cases decide (P (ix2 t i') < P (ix2 t i)) <;> rfl

/-- The position of the cut `[4096, 2]` array in the whole one. -/
def inner (t : Fin 4096) (k : Fin 2) : S4096x16.Idx := fun a =>
  ⟨0 + ((ix2 t k : S4096x2.Idx) (a.cast sliceFits_S4096x16_S4096x2.1.symm)).val,
    Nat.lt_of_lt_of_le (Nat.add_lt_add_left ((ix2 t k : S4096x2.Idx) _).isLt _) (sliceFits_S4096x16_S4096x2.2 a)⟩

/-- The sorted order of row `t`, read at choice `k`. -/
theorem spot_eq (t : Fin 4096) (k : Fin 2) : (inner t k).along 1 (sortedFrom (fun i i' : Fin 16 =>
      FloatOps.cmpfTotal (F := Ideal) .gt (P ((inner t k).along 1 i)) (P ((inner t k).along 1 i')) == 1#1) (inner t k 1)) = ix2 t (choice P t k) := by
  refine (congrArg (fun q : Fin 16 => (inner t k).along 1 q) (pos_eq P (inner t k) t (Nat.zero_add _) k (Nat.zero_add _))).trans ?_
  exact along_row _ t (Nat.zero_add _) _

/-- The two largest probabilities. -/
theorem vals_eq (t : Fin 4096) (k : Fin 2) : vals (F := Ideal) P (ix2 t k) = row P t (choice P t k) :=
  congrArg P (spot_eq P t k)

/-- Their experts. -/
theorem idxs_eq (t : Fin 4096) (k : Fin 2) : idxs (F := Ideal) P (ix2 t k) = BitVec.ofNat 32 (choice P t k).val :=
  congrArg (fun i : S4096x16.Idx => BitVec.ofNat 32 (i 1).val) (spot_eq P t k)

/-- Their weights. -/
theorem wts_eq (t : Fin 4096) (k : Fin 2) : wts (F := Ideal) (vals (F := Ideal) P) (ix2 t k)
    = Ideal.div (row P t (choice P t k)) (row P t (best (row P t)) + row P t (next (row P t))) := by
  have h : ∀ v : FVec Ideal S4096x2 .f32, wts (F := Ideal) v (ix2 t k) = Ideal.div (v (ix2 t k)) (∑ x, v (ix2 t x)) := by
    intro v
    unfold wts
    pointwise
  rw [h, Fin.sum_univ_two, vals_eq, vals_eq, vals_eq]
  rfl

end Choice

section Queue

variable (A B : ℕ → Fin 16)

/-- The one-hot rows. -/
theorem hot_eq (E : IVec S8192 32) (hE : ∀ f : Fin 8192, E (ix1 f) = BitVec.ofNat 32 (entry A B f.val).val) (f : Fin 8192) (e : Fin 16) :
    hot E (ix2 f e) = BitVec.ofNat 32 (if e = entry A B f.val then 1 else 0) := by
  have h : hot E (ix2 f e) = BitVec.setWidth 32 (IntOp.cmpi .eq (E (ix1 f)) (BitVec.ofNat 32 e.val)) := by
    unfold hot
    pointwise
  rw [h, hE, cmpi_eq_fin]
  by_cases he : e = entry A B f.val
  · rw [if_pos he, he]; simp
  · rw [if_neg he, decide_eq_false (fun h => he h.symm)]; rfl

/-- The sum of an indicator over a list of numbers is a count. -/
theorem sum_range_count (q : ℕ → Prop) [DecidablePred q] (n : ℕ) :
    ((List.range n).map fun i => if q i then 1 else 0).sum = Nat.count q n := by
  induction n with
  | zero => rfl
  | succ n ih => rw [List.range_succ, List.map_append, List.sum_append, ih, Nat.count_succ]; simp

/-- The running counts. -/
theorem cums_eq (H : IVec S8192x16 32) (g : ℕ → Fin 16 → ℕ) (hH : ∀ (f : Fin 8192) e, H (ix2 f e) = BitVec.ofNat 32 (g f.val e)) (f : Fin 8192) (e : Fin 16) :
    cums H (ix2 f e) = BitVec.ofNat 32 ((List.range (f.val + 1)).map fun i => g i e).sum := by
  have hf := f.isLt
  unfold cums Host.reduceWindow
  refine (Routing.foldl_addi_ofNat _ _ (fun n => if 8191 ≤ f.val + n.val then g (f.val + n.val - 8191) e else 0) (fun n _ => ?_) _ 0 rfl).trans ?_
  · have hN : (Routing.shape2 8192 1).numel = 8192 := by decide
    have hn : n.val < 8192 := (n.cast hN).isLt
    have hw0 : ((Routing.shape2 8192 1).rowMajor.symm n 0).val = n.val := by
      rw [Routing.symm22 n (by omega) (by omega)]; exact Nat.div_one _
    have hw : ((Routing.shape2 8192 1).rowMajor.symm n 1).val = 0 := by
      rw [Routing.symm22 n (by omega) (by omega)]; exact Nat.mod_one _
    dsimp only
    split
    · next hin =>
      have h0 := hin 0
      change 8191 ≤ f.val * 1 + ((Routing.shape2 8192 1).rowMajor.symm n 0).val
        ∧ f.val * 1 + ((Routing.shape2 8192 1).rowMajor.symm n 0).val - 8191 < 8192 at h0
      rw [hw0] at h0
      rw [if_pos (by omega)]
      refine (congrArg H (funext fun a => Fin.ext ?_)).trans (hH ⟨f.val + n.val - 8191, by omega⟩ e)
      match a with
      | ⟨0, _⟩ =>
        show f.val * 1 + ((Routing.shape2 8192 1).rowMajor.symm n 0).val - 8191 = f.val + n.val - 8191
        rw [hw0, Nat.mul_one]
      | ⟨1, _⟩ =>
        show e.val * 1 + ((Routing.shape2 8192 1).rowMajor.symm n 1).val - 0 = e.val
        rw [hw]
        omega
    · next hin =>
      rw [if_neg fun hle => hin fun a => by
        match a with
        | ⟨0, _⟩ =>
          show 8191 ≤ f.val * 1 + ((Routing.shape2 8192 1).rowMajor.symm n 0).val
            ∧ f.val * 1 + ((Routing.shape2 8192 1).rowMajor.symm n 0).val - 8191 < 8192
          rw [hw0]
          omega
        | ⟨1, _⟩ =>
          show 0 ≤ e.val * 1 + ((Routing.shape2 8192 1).rowMajor.symm n 1).val
            ∧ e.val * 1 + ((Routing.shape2 8192 1).rowMajor.symm n 1).val - 0 < 16
          rw [hw]
          have := e.isLt
          omega]
      rfl
  · rw [Nat.zero_add, Routing.map_finRange_val _ (fun w => if 8191 ≤ f.val + w then g (f.val + w - 8191) e else 0)]
    exact congrArg (BitVec.ofNat 32) ((congrArg (fun M => ((List.range M).map fun w => if 8191 ≤ f.val + w then g (f.val + w - 8191) e else 0).sum)
      (show (Routing.shape2 8192 1).numel = 8191 + 1 by decide)).trans (Routing.sum_window (fun i => g i e) 8191 f.val (by omega)))

end Queue

/-- Entry `f` of the scatter writes where its index triple says. -/
theorem lands (idx : IVec S8192x3 32) (f : Fin 8192) (t : Fin 4096) (e : Fin 16) (c : Fin 320) :
    (scatter_S4096x16x320_S8192x3_S8192_n_012_012_1).resultIdx? (ix1 f) idx = some (ix3 t e c) ↔
      (idx (ix2 f 0)).toInt = t.val ∧ (idx (ix2 f 1)).toInt = e.val ∧ (idx (ix2 f 2)).toInt = c.val := by
  rw [Routing.resultIdx?_eq_some]
  have hs : ∀ a : Fin 3, (scatter_S4096x16x320_S8192x3_S8192_n_012_012_1).start (ix1 f) idx a = (idx (ix2 f a)).toInt := by
    intro a
    unfold ScatterDims.start
    have ha : a ∈ (scatter_S4096x16x320_S8192x3_S8192_n_012_012_1).scatterDimsToOperandDims := by
      fin_cases a <;> decide
    rw [dif_pos ha]
    refine congrArg (fun i => (idx i).toInt) (funext fun b => Fin.ext ?_)
    match b with
    | ⟨0, _⟩ => fin_cases a <;> rfl
    | ⟨1, _⟩ => fin_cases a <;> rfl
  have hw : ∀ a : Fin 3, (scatter_S4096x16x320_S8192x3_S8192_n_012_012_1).window (ix1 f) a = 0 := by
    intro a
    fin_cases a <;> rfl
  have hz : ∀ a : Fin 3, (scatter_S4096x16x320_S8192x3_S8192_n_012_012_1).start (ix1 f) idx a
      + ((scatter_S4096x16x320_S8192x3_S8192_n_012_012_1).window (ix1 f) a : Int) = (idx (ix2 f a)).toInt := by
    intro a
    rw [hs, hw]
    exact add_zero _
  constructor
  · intro h
    exact ⟨(hz 0).symm.trans (h 0), (hz 1).symm.trans (h 1), (hz 2).symm.trans (h 2)⟩
  · rintro ⟨h0, h1, h2⟩ a
    match a with
    | ⟨0, _⟩ => exact (hz 0).trans h0
    | ⟨1, _⟩ => exact (hz 1).trans h1
    | ⟨2, _⟩ => exact (hz 2).trans h2

/-- Entry `f` belongs to token `f / 2`. -/
theorem toks_eq (f : Fin 8192) : toks (ix1 f) = BitVec.ofNat 32 (f.val / 2) := by
  have hf := f.isLt
  exact Routing.pyDiv_ap bcast_S_S8192 (iotaInDim S8192 32 0) (id (constantI S_ 32 2#32)) (ix1 f) (a := f.val) (b := 2)
    rfl rfl (by omega) (by omega) (by omega)

end Cert.ReferenceIdeal.Reads

end
-- ==== Proof.RefSpec.lean ====
/- The reference's results as functions of each token's two best experts: the dispatch indicator, the combine weights and
   the loss. -/
module

public import proofs.«01_k».proof.Proof.RefReads

@[expose] public section

set_option maxRecDepth 16384

noncomputable section

namespace Cert.ReferenceIdeal.Reads

open Cert.ReferenceIdeal Cert.ReferenceIdeal.Gen Cert.ReferenceIdeal.Stages Cert.Router Idealize.ShloMosaic

/-- The words of an expert are its number. -/
theorem toInt_fin (a : Fin 16) : (BitVec.ofNat 32 a.val).toInt = a.val := toInt_ofNat _ (by omega)

/-- A fold of word addition whose only term is at `a`. -/
theorem fold_addi_single (g : Fin 16 → BitVec 32) (a : Fin 16) (h : ∀ e, e ≠ a → g e = 0#32) :
    (Finset.univ : Finset (Fin 16)).fold IntOp.addi 0#32 g = g a :=
  (Finset.sum_eq_fold (Finset.univ : Finset (Fin 16)) g).symm.trans
    (Finset.sum_eq_single a (fun e _ he => h e he) (fun ha => absurd (Finset.mem_univ a) ha))

section Slots

variable (A B : ℕ → Fin 16) (hne : ∀ s, B s ≠ A s)

include hne in
/-- The queue position of entry `f`: how many earlier tokens chose its expert. -/
theorem queue_eq (E : IVec S8192 32) (hE : ∀ f : Fin 8192, E (ix1 f) = BitVec.ofNat 32 (entry A B f.val).val) (f : Fin 8192) :
    queue (hot E) (ix1 f) = BitVec.ofNat 32 (cnt A B (entry A B f.val) (f.val / 2)) := by
  have hq : ∀ H : IVec S8192x16 32, queue H (ix1 f)
      = IntOp.subi (Finset.fold IntOp.addi 0#32 (fun x => IntOp.muli (cums H (ix2 f x)) (H (ix2 f x))) Finset.univ) 1#32 := by
    intro H
    unfold queue
    generalize cums H = C
    pointwise
  rw [hq, fold_addi_single _ (entry A B f.val) (fun e he => ?_)]
  · rw [hot_eq A B E hE, if_pos rfl, cums_eq (hot E) (fun i e => if e = entry A B i then 1 else 0) (fun f e => hot_eq A B E hE f e), sum_range_count,
      Nat.count_succ, if_pos rfl, count_entry A B hne]
    show BitVec.ofNat 32 (_ + 1) * 1#32 - 1#32 = _
    rw [BitVec.mul_one, BitVec.ofNat_add, BitVec.add_sub_cancel]
  · rw [hot_eq A B E hE, if_neg he]
    exact BitVec.mul_zero

/-- An index that does not count from the end stays. -/
theorem wrap_eq (n : BitVec 32) (x : IVec S8192 32) (f : Fin 8192) (k : ℕ) (hx : x (ix1 f) = BitVec.ofNat 32 k) (hk : k < 2147483648) :
    wrap n x (ix1 f) = BitVec.ofNat 32 k :=
  (Routing.wrap_of_lt (x (ix1 f)) _ (by rw [hx, BitVec.toNat_ofNat]; omega)).trans hx

/-- The first component of a triple. -/
theorem triples_0 (E Q : IVec S8192 32) (f : Fin 8192) : triples E Q (ix2 f 0) = wrap 4096#32 toks (ix1 f) := by
  unfold triples col
  generalize wrap 4096#32 toks = a
  generalize wrap 16#32 E = b
  generalize wrap 320#32 Q = c
  pointwise

/-- The second component of a triple. -/
theorem triples_1 (E Q : IVec S8192 32) (f : Fin 8192) : triples E Q (ix2 f 1) = wrap 16#32 E (ix1 f) := by
  unfold triples col
  generalize wrap 4096#32 toks = a
  generalize wrap 16#32 E = b
  generalize wrap 320#32 Q = c
  pointwise

/-- The third component of a triple. -/
theorem triples_2 (E Q : IVec S8192 32) (f : Fin 8192) : triples E Q (ix2 f 2) = wrap 320#32 Q (ix1 f) := by
  unfold triples col
  generalize wrap 4096#32 toks = a
  generalize wrap 16#32 E = b
  generalize wrap 320#32 Q = c
  pointwise

variable (E Q : IVec S8192 32) (hE : ∀ f : Fin 8192, E (ix1 f) = BitVec.ofNat 32 (entry A B f.val).val)
  (hQ : ∀ f : Fin 8192, Q (ix1 f) = BitVec.ofNat 32 (cnt A B (entry A B f.val) (f.val / 2)))

include hE hQ in
/-- Entry `f` writes token `f / 2`'s element at its expert and queue position. -/
theorem lands_iff (f : Fin 8192) (t : Fin 4096) (e : Fin 16) (c : Fin 320) :
    (scatter_S4096x16x320_S8192x3_S8192_n_012_012_1).resultIdx? (ix1 f) (triples E Q) = some (ix3 t e c) ↔
      f.val / 2 = t.val ∧ entry A B f.val = e ∧ cnt A B e t.val = c.val := by
  have hf := f.isLt
  have hc : cnt A B (entry A B f.val) (f.val / 2) ≤ f.val / 2 := Nat.count_le _
  rw [lands, triples_0, triples_1, triples_2, wrap_eq _ _ f _ (toks_eq f) (by omega), wrap_eq _ _ f _ (hE f) (by omega),
    wrap_eq _ _ f _ (hQ f) (by omega), toInt_ofNat _ (by omega), toInt_ofNat _ (by omega), toInt_ofNat _ (by omega)]
  constructor
  · rintro ⟨h0, h1, h2⟩
    have h0' : f.val / 2 = t.val := Int.ofNat_inj.mp h0
    have h1' : entry A B f.val = e := Fin.ext (Int.ofNat_inj.mp h1)
    refine ⟨h0', h1', ?_⟩
    rw [← h0', ← h1']
    exact Int.ofNat_inj.mp h2
  · rintro ⟨h0, h1, h2⟩
    refine ⟨congrArg _ h0, congrArg (fun a : Fin 16 => (a.val : Int)) h1, ?_⟩
    rw [h0, h1]
    exact congrArg _ h2

include hE hQ hne in
/-- A scatter of the entries `u` over `z`: token `t`'s two entries land at their experts and queue positions. -/
theorem scatter_eq {α : Type} (z : S4096x16x320.Idx → α) (u : S8192.Idx → α) (t : Fin 4096) (e : Fin 16) (c : Fin 320) :
    Host.scatter scatter_S4096x16x320_S8192x3_S8192_n_012_012_1 (fun _ b => b) z (triples E Q) u (ix3 t e c) =
      if cnt A B e t.val = c.val then
        (if e = A t.val then u (ix1 ⟨2 * t.val, by omega⟩) else if e = B t.val then u (ix1 ⟨2 * t.val + 1, by omega⟩) else z (ix3 t e c))
      else z (ix3 t e c) := by
  have ht := t.isLt
  have hL := fun f => lands_iff A B E Q hE hQ f t e c
  have hcase : ∀ f : Fin 8192, f.val / 2 = t.val → f.val = 2 * t.val ∨ f.val = 2 * t.val + 1 := fun f h => by omega
  by_cases hc : cnt A B e t.val = c.val
  · rw [if_pos hc]
    by_cases ha : e = A t.val
    · rw [if_pos ha]
      refine Routing.scatter_set_hit _ _ _ _ _ _ (fun k hk => ?_) (ix1 ⟨2 * t.val, by omega⟩) ((hL _).mpr ⟨by dsimp only; omega, ?_, hc⟩)
      · rw [eq_ix1 k] at hk ⊢
        obtain ⟨h0, h1, -⟩ := (hL _).mp hk
        rcases hcase _ h0 with h | h
        · exact congrArg (fun f : Fin 8192 => u (ix1 f)) (Fin.ext h)
        · rw [h, entry_odd, ha] at h1
          exact absurd h1 (hne _)
      · exact (entry_even A B t.val).trans ha.symm
    · rw [if_neg ha]
      by_cases hb : e = B t.val
      · rw [if_pos hb]
        refine Routing.scatter_set_hit _ _ _ _ _ _ (fun k hk => ?_) (ix1 ⟨2 * t.val + 1, by omega⟩) ((hL _).mpr ⟨by dsimp only; omega, ?_, hc⟩)
        · rw [eq_ix1 k] at hk ⊢
          obtain ⟨h0, h1, -⟩ := (hL _).mp hk
          rcases hcase _ h0 with h | h
          · rw [h, entry_even] at h1
            exact absurd h1.symm ha
          · exact congrArg (fun f : Fin 8192 => u (ix1 f)) (Fin.ext h)
        · exact (entry_odd A B t.val).trans hb.symm
      · rw [if_neg hb]
        refine Routing.scatter_set_miss _ _ _ _ _ (fun k hk => ?_)
        rw [eq_ix1 k] at hk
        obtain ⟨h0, h1, -⟩ := (hL _).mp hk
        rcases hcase _ h0 with h | h
        · rw [h, entry_even] at h1
          exact ha h1.symm
        · rw [h, entry_odd] at h1
          exact hb h1.symm
  · rw [if_neg hc]
    refine Routing.scatter_set_miss _ _ _ _ _ (fun k hk => ?_)
    rw [eq_ix1 k] at hk
    exact hc ((hL _).mp hk).2.2

end Slots

section Results

variable (P : FVec Ideal S4096x16 .f32)

/-- Token `s`'s best expert. -/
def fst (s : ℕ) : Fin 16 := best (row P ⟨s % 4096, Nat.mod_lt _ (by decide)⟩)

/-- Token `s`'s second expert. -/
def snd (s : ℕ) : Fin 16 := next (row P ⟨s % 4096, Nat.mod_lt _ (by decide)⟩)

theorem snd_ne (s : ℕ) : snd P s ≠ fst P s := (isTop2 _).ne

theorem fst_val (t : Fin 4096) : fst P t.val = best (row P t) :=
  congrArg (fun t => best (row P t)) (Fin.ext (Nat.mod_eq_of_lt t.isLt))

theorem snd_val (t : Fin 4096) : snd P t.val = next (row P t) :=
  congrArg (fun t => next (row P t)) (Fin.ext (Nat.mod_eq_of_lt t.isLt))

/-- Entry `f` of a flattened pair array. -/
theorem flat_at (I : IVec S4096x2 32) (f : Fin 8192) :
    flat I (ix1 f) = I (ix2 ⟨f.val / 2, by omega⟩ ⟨f.val % 2, by omega⟩) := by
  unfold flat
  pointwise

/-- Entry `f` of a flattened pair array of numbers. -/
theorem flatV_at (V : FVec Ideal S4096x2 .f32) (f : Fin 8192) :
    shapeCast S8192 V shapeCasts_S4096x2_S8192 (ix1 f) = V (ix2 ⟨f.val / 2, by omega⟩ ⟨f.val % 2, by omega⟩) := by
  pointwise

/-- The flattened choices. -/
theorem flat_eq (f : Fin 8192) : flat (idxs (F := Ideal) P) (ix1 f) = BitVec.ofNat 32 (entry (fst P) (snd P) f.val).val := by
  have hf := f.isLt
  rw [flat_at, idxs_eq]
  refine congrArg (fun a : Fin 16 => BitVec.ofNat 32 a.val) ?_
  have h : ∀ s : Fin 4096, (⟨s.val % 4096, Nat.mod_lt _ (by decide)⟩ : Fin 4096) = s := fun s => Fin.ext (Nat.mod_eq_of_lt s.isLt)
  have h' := h ⟨f.val / 2, by omega⟩
  unfold choice entry fst snd
  dsimp only at h'
  rw [h']
  refine if_congr ?_ rfl rfl
  rw [Fin.ext_iff]
  rfl

/-- The dispatch indicator: expert `e` is one of token `t`'s two, and `c` tokens before `t` chose it. -/
theorem dispOf_eq (t : Fin 4096) (e : Fin 16) (c : Fin 320) : dispOf (F := Ideal) P (ix3 t e c) =
    if cnt (fst P) (snd P) e t.val = c.val then (if e = fst P t.val then 1#1 else if e = snd P t.val then 1#1 else 0#1) else 0#1 := by
  have hz : broadcastInDim S4096x16x320 ![] bcast_S_S4096x16x320 (constantI S_ 1 0#1) (ix3 t e c) = 0#1 := by
    pointwise
  have hu : ∀ f : Fin 8192, broadcastInDim S8192 ![] bcast_S_S8192 (constantI S_ 1 1#1) (ix1 f) = 1#1 := fun f => by
    pointwise
  unfold dispOf disp
  rw [scatter_eq (fst P) (snd P) (snd_ne P) _ _ (flat_eq P) (queue_eq _ _ (snd_ne P) _ (flat_eq P)), hz, hu, hu]

/-- The combine weights: the same with the weight of the choice. -/
theorem combOf_eq (t : Fin 4096) (e : Fin 16) (c : Fin 320) : combOf (F := Ideal) P (ix3 t e c) =
    if cnt (fst P) (snd P) e t.val = c.val then
      (if e = fst P t.val then Ideal.div (row P t (best (row P t))) (row P t (best (row P t)) + row P t (next (row P t)))
        else if e = snd P t.val then Ideal.div (row P t (next (row P t))) (row P t (best (row P t)) + row P t (next (row P t))) else 0)
    else 0 := by
  have hz : broadcastInDim S4096x16x320 ![] bcast_S_S4096x16x320 (constant (F := Ideal) S_ .f32 0x00000000#32) (ix3 t e c) = 0 := by
    pointwise
  unfold combOf comb
  rw [scatter_eq (fst P) (snd P) (snd_ne P) _ _ (flat_eq P) (queue_eq _ _ (snd_ne P) _ (flat_eq P)), hz, flatV_at, flatV_at]
  have ht := t.isLt
  have e0 : (⟨2 * t.val / 2, by omega⟩ : Fin 4096) = t := Fin.ext (by dsimp only; omega)
  have e1 : (⟨(2 * t.val + 1) / 2, by omega⟩ : Fin 4096) = t := Fin.ext (by dsimp only; omega)
  have k0 : (⟨2 * t.val % 2, by omega⟩ : Fin 2) = 0 := Fin.ext (by show 2 * t.val % 2 = 0; omega)
  have k1 : (⟨(2 * t.val + 1) % 2, by omega⟩ : Fin 2) = 1 := Fin.ext (by show (2 * t.val + 1) % 2 = 1; omega)
  rw [e0, e1, k0, k1, wts_eq, wts_eq]
  rfl

/-- The host's sum over the first two axes of a rank 3 array. -/
theorem sum_fiber (v : S4096x2x16.Idx → EReal) (e : Fin 16) :
    (∑ i ∈ Finset.univ.filter (fun i => reducesTo_S4096x2x16_S16_d0_1.drop i = ix1 e), v i) = ∑ t : Fin 4096, ∑ k : Fin 2, v (ix3 t k e) := by
  refine (Finset.sum_filter_eq_sum_of_fiber _ (fun k : Fin 4096 × Fin 2 => (ix3 k.1 k.2 e : S4096x2x16.Idx))
    (fun _ _ h => Prod.ext (congrFun h 0) (congrFun h 1)) (fun i => ?_) v).trans ?_
  · constructor
    · intro h
      refine ⟨(i 0, i 1), ?_⟩
      funext a; apply Fin.ext
      match a with
      | ⟨0, _⟩ => rfl
      | ⟨1, _⟩ => rfl
      | ⟨2, _⟩ => exact (congrArg Fin.val (congrFun h 0)).symm
    · rintro ⟨k, rfl⟩
      funext b
      apply Fin.ext
      match b with
      | ⟨0, _⟩ => rfl
  · simp only [Fintype.sum_prod_type]

/-- The number of an indicator. -/
theorem uitofp_ofBool (b : Bool) : (FloatOps.uitofp (F := Ideal) .f32 (BitVec.ofBool b) : EReal) = if b then 1 else 0 := by
  show (((BitVec.ofBool b).toNat : ℝ) : EReal) = _
  cases b <;> simp

/-- The indicator of the choices before it is summed. -/
theorem marks (I : IVec S4096x2 32) (t : Fin 4096) (k : Fin 2) (e : Fin 16) :
    (uitofp (F := Ideal) .f32 (cmpi .eq (broadcastInDim S4096x2x16 ![0, 1, 2] bcast_S4096x2x1_S4096x2x16_0_1_2 (broadcastInDim S4096x2x1 ![0, 1] bcast_S4096x2_S4096x2x1_0_1 I)) (broadcastInDim S4096x2x16 ![0, 1, 2] bcast_S1x1x16_S4096x2x16_0_1_2 (broadcastInDim S1x1x16 ![2] bcast_S16_S1x1x16_2 (iotaInDim S16 32 0))))) (ix3 t k e)
      = FloatOps.uitofp (F := Ideal) .f32 (IntOp.cmpi .eq (I (ix2 t k)) (BitVec.ofNat 32 e.val)) := by
  pointwise

/-- How often expert `e` is chosen. -/
theorem freq_eq (e : Fin 16) : freq (F := Ideal) (idxs (F := Ideal) P) (ix1 e) = ((cnt (fst P) (snd P) e 4096 : ℕ) : EReal) := by
  unfold freq
  have h : ∀ v : FVec Ideal S4096x2x16 .f32, Host.reduceAdd v (constant S_ .f32 0x00000000#32) reducesTo_S4096x2x16_S16_d0_1 h_S_ (ix1 e)
      = ∑ t : Fin 4096, ∑ k : Fin 2, v (ix3 t k e) := fun v => by
    refine Eq.trans ?_ (sum_fiber v e)
    show Ideal.ofBits .f32 0x00000000#32 + _ = _
    rw [show Ideal.ofBits .f32 0x00000000#32 = 0 by simp [Ideal.ofBits, Ideal.ieee], zero_add]
  rw [h]
  unfold cnt
  rw [← sum_all]
  refine Finset.sum_congr rfl fun t _ => ?_
  rw [Fin.sum_univ_two, marks, marks, idxs_eq, idxs_eq, cmpi_eq_fin, cmpi_eq_fin, uitofp_ofBool, uitofp_ofBool, fst_val, snd_val]
  have hn : next (row P t) ≠ best (row P t) := (isTop2 _).ne
  unfold choice
  simp only [decide_eq_true_eq, if_pos, show ¬ (1 : Fin 2) = 0 by decide, if_false, if_true]
  by_cases ha : best (row P t) = e
  · have hb : ¬ next (row P t) = e := fun h => hn (h.trans ha.symm)
    rw [if_pos ha, if_neg hb, if_pos (Or.inl ha.symm), add_zero]
  · by_cases hb : next (row P t) = e
    · rw [if_neg ha, if_pos hb, if_pos (Or.inr hb.symm), zero_add]
    · rw [if_neg ha, if_neg hb, if_neg (fun h => h.elim (fun h => ha h.symm) (fun h => hb h.symm)), add_zero]

/-- The column sums. -/
theorem colSum_eq (e : Fin 16) : colSum (F := Ideal) P (ix1 e) = ∑ t, P (ix2 t e) := by
  unfold colSum
  pointwise

/-- The loss of frequencies and sums. -/
theorem lossOf_eq (f p : FVec Ideal S16 .f32) : lossOf (F := Ideal) f p ix0 =
    Ideal.ofBits .f32 0x3E23D70A#32 * ∑ e, Ideal.div (f (ix1 e)) (Ideal.ofBits .f32 0x46000000#32) * Ideal.div (p (ix1 e)) (Ideal.ofBits .f32 0x45800000#32) := by
  unfold lossOf
  pointwise

/-- The loss: the sum over the experts of their frequency's share times their probability's mean, scaled. -/
theorem lossP_eq : lossP (F := Ideal) P ix0 =
    Ideal.ofBits .f32 0x3E23D70A#32 * ∑ e, Ideal.div ((cnt (fst P) (snd P) e 4096 : ℕ) : EReal) (Ideal.ofBits .f32 0x46000000#32)
      * Ideal.div (∑ t, P (ix2 t e)) (Ideal.ofBits .f32 0x45800000#32) := by
  unfold lossP
  rw [lossOf_eq]
  simp only [freq_eq, colSum_eq]

end Results

end Cert.ReferenceIdeal.Reads

end
-- ==== Proof.Finite.lean ====
/- What the precondition gives: every argument is a real number, hence so is every logit and every probability. -/
module

public import proofs.«01_k».proof.Defs
public import proofs.«01_k».proof.Proof.Top2
public import Idealize.ShloMosaic.Lib.ReduceAll

@[expose] public section

set_option maxRecDepth 16384

noncomputable section

namespace Cert.Router

open Idealize.ShloMosaic

/-- A sum of real numbers is a real number. -/
theorem sum_real {ι : Type} (s : Finset ι) (g : ι → EReal) (h : ∀ k, ∃ r : ℝ, g k = r) : ∃ r : ℝ, ∑ k ∈ s, g k = r := by
  induction s using Finset.cons_induction with
  | empty => exact ⟨0, rfl⟩
  | cons a s ha ih =>
    obtain ⟨x, hx⟩ := h a
    obtain ⟨y, hy⟩ := ih
    exact ⟨x + y, by rw [Finset.sum_cons, hx, hy, EReal.coe_add]⟩

/-- A sum of products of real numbers is a real number. -/
theorem dot_real {n : ℕ} (x w : Fin n → EReal) (hx : ∀ k, ∃ r : ℝ, x k = r) (hw : ∀ k, ∃ r : ℝ, w k = r) :
    ∃ r : ℝ, ∑ k, x k * w k = r :=
  sum_real _ _ fun k => by
    obtain ⟨a, ha⟩ := hx k
    obtain ⟨b, hb⟩ := hw k
    exact ⟨a * b, by rw [ha, hb, EReal.coe_mul]⟩

/-- The softmax of real logits is never `⊥`. -/
theorem softmax_ne_bot (l : Fin 16 → EReal) (hl : ∀ e, ∃ r : ℝ, l e = r) (e : Fin 16) :
    Ideal.div (Ideal.exp (l e - Finset.univ.fold max ⊥ l)) (∑ e', Ideal.exp (l e' - Finset.univ.fold max ⊥ l)) ≠ ⊥ := by
  rw [fold_max_eq l (best l) (isTop2 l).le_first]
  choose f hf using hl
  have hx : ∀ e, Ideal.exp (l e - l (best l)) = ((Real.exp (f e - f (best l)) : ℝ) : EReal) := fun e => by
    rw [hf, hf, ← EReal.coe_sub]; rfl
  have hs : ∀ s : Finset (Fin 16), ∑ e' ∈ s, Ideal.exp (l e' - l (best l)) = ((∑ e' ∈ s, Real.exp (f e' - f (best l)) : ℝ) : EReal) := by
    intro s
    induction s using Finset.cons_induction with
    | empty => rfl
    | cons a s ha ih => rw [Finset.sum_cons, Finset.sum_cons, ih, hx, EReal.coe_add]
  have hp : (∑ e', Real.exp (f e' - f (best l))) ≠ 0 :=
    (Finset.sum_pos (fun e _ => Real.exp_pos _) ⟨0, Finset.mem_univ _⟩).ne'
  rw [hx, hs, Ideal.div_coe hp, ← EReal.coe_mul]
  exact EReal.coe_ne_bot _

/-- A number whose absolute value is below infinity is real. -/
theorem real_of_abs_lt (x : EReal) (h : Ideal.cmp .olt (max x (-x)) (Ideal.ofBits .f32 0x7F800000#32) = 1#1) : ∃ r : ℝ, x = r := by
  have h' : max x (-x) < ⊤ := by
    have ht : Ideal.ofBits .f32 0x7F800000#32 = ⊤ := by simp [Ideal.ofBits, Ideal.ieee]
    rw [ht] at h
    change BitVec.ofBool (decide (max x (-x) < ⊤)) = 1#1 at h
    by_contra hc
    rw [decide_eq_false hc] at h
    exact absurd h (by decide)
  induction x using EReal.rec with
  | bot => exact absurd h' (by simp)
  | coe r => exact ⟨r, rfl⟩
  | top => exact absurd h' (by simp)

/-- Under the precondition both arguments are real numbers. -/
theorem real_of_finite [Cert.Pre_finite.Facts] (X : FVec Ideal Cert.Pre_finite.S4096x1024 .f32) (W : FVec Ideal Cert.Pre_finite.S16x1024 .f32)
    (h : Cert.Pre_finite.fn (F := Ideal) X W = fun _ => 1#1) : (∀ i, ∃ r : ℝ, X i = r) ∧ (∀ i, ∃ r : ℝ, W i = r) := by
  have hs : Subsingleton Cert.Pre_finite.S_.Idx := ⟨fun a b => funext fun k => k.elim0⟩
  have h0 := congrFun h (fun a => a.elim0)
  unfold Cert.Pre_finite.fn at h0
  dsimp only at h0
  have hand : ∀ a b : BitVec 1, IntOp.andi a b = 1#1 → a = 1#1 ∧ b = 1#1 := by decide
  obtain ⟨h1, h2⟩ := hand _ _ h0
  refine ⟨fun i => real_of_abs_lt _ ?_, fun i => real_of_abs_lt _ ?_⟩
  · exact Host.reduce_andi_all _ _ _ _ _ h1 i
  · exact Host.reduce_andi_all _ _ _ _ _ h2 i

end Cert.Router

end
-- ==== Proof.KernelSpec.lean ====
/- The idealized kernel's results equal the reference's stages: the blocks' probabilities are the rows of the softmax, the
   carried counts are the counts of the tokens before the block, and so each result array is the reference's. -/
module

public import proofs.«01_k».proof.Proof.Fold
public import proofs.«01_k».proof.Proof.Payloads
public import proofs.«01_k».proof.Proof.RefSpec
public import proofs.«01_k».proof.Proof.Finite

@[expose] public section

set_option maxRecDepth 16384

noncomputable section

namespace Cert.KernelIdeal.Global

open Cert.KernelIdeal Cert.KernelIdeal.Gen Cert.KernelIdeal.Blocks Cert.KernelIdeal.Payloads Cert.Router Idealize.ShloMosaic
open Cert.ReferenceIdeal.Reads (row fst snd snd_ne fst_val snd_val probs_eq dispOf_eq combOf_eq lossP_eq)
open Cert.ReferenceIdeal.Stages (probs dispOf combOf lossP)

variable (X : FVec Ideal S4096x1024 .f32) (W : FVec Ideal S16x1024 .f32)

/-- Token `s`, whatever `s`. -/
abbrev tok (s : ℕ) : Fin 4096 := ⟨s % 4096, Nat.mod_lt _ (by decide)⟩

/-- Row `r` of the `n`-th block of tokens. -/
theorem tokBlk_at (n : ℕ) (r : Fin 512) (k : Fin 1024) : tokBlk X n (ix2 r k) = X (ix2 (tok (n * 512 + r.val)) k) := by
  rw [ix2_eq_valueIdx (tok (n * 512 + r.val)) k]
  rfl

/-- The block's probabilities are the rows of the softmax. -/
theorem prob_row (n : ℕ) (r : Fin 512) : prob (tokBlk X n) W r = row (probs X W) (tok (n * 512 + r.val)) := by
  funext e
  unfold row
  rw [prob_eq, probs_eq]
  simp only [tokBlk_at]

/-- The same, of the raw array. -/
theorem pay8_row (n : ℕ) (r : Fin 512) (e : Fin 16) : k0_pay8 (F := Ideal) (tokBlk X n) W (ix2 r e) = row (probs X W) (tok (n * 512 + r.val)) e :=
  congrFun (prob_row X W n r) e

/-- Token `t` in its block. -/
theorem tok_div (t : Fin 4096) : tok (t.val / 512 * 512 + t.val % 512) = t :=
  Fin.ext (by show (t.val / 512 * 512 + t.val % 512) % 4096 = t.val; omega)

/-- The kernel's probabilities are the reference's. -/
theorem probsArr_eq : probsArr X W = probs X W := by
  funext i
  obtain ⟨t, e, rfl⟩ : ∃ (t : Fin 4096) (e : Fin 16), i = ix2 t e := ⟨i 0, i 1, eq_ix2 i⟩
  show k0_pay8 (F := Ideal) (tokBlk X (t.val / 512)) W (ValueIdx.ix2 ⟨t.val % 512, Nat.mod_lt _ (by decide)⟩ e) = _
  rw [← ix2_eq_valueIdx, pay8_row, tok_div]
  rfl

section Best

variable (hP : ∀ t e, row (probs X W) t e ≠ ⊥)

/-- The best expert of the block's row `r`. -/
abbrev bestOf (n : ℕ) (s : ℕ) : Fin 16 := fst (probs X W) (n * 512 + s)

/-- The second expert of the block's row `r`. -/
abbrev nextOf (n : ℕ) (s : ℕ) : Fin 16 := snd (probs X W) (n * 512 + s)

/-- The words of the best experts. -/
theorem first_word (n : ℕ) (r : Fin 512) : k0_pay10 (F := Ideal) (tokBlk X n) W (ix2 r 0) = BitVec.ofNat 32 (bestOf X W n r.val).val := by
  rw [pay10_eq, prob_row]
  rfl

include hP in
/-- The words of the second experts. -/
theorem second_word (n : ℕ) (r : Fin 512) : k0_pay13 (F := Ideal) (tokBlk X n) W (ix2 r 0) = BitVec.ofNat 32 (nextOf X W n r.val).val := by
  rw [pay13_eq _ _ _ (fun e => by rw [prob_row]; exact hP _ _), prob_row]
  rfl

/-- The count before row `k` of block `n`. -/
theorem cnt_block (n k : ℕ) (e : Fin 16) : cnt (fst (probs X W)) (snd (probs X W)) e (n * 512) + cnt (bestOf X W n) (nextOf X W n) e k
    = cnt (fst (probs X W)) (snd (probs X W)) e (n * 512 + k) :=
  (cnt_add _ _ _ _ _).symm

include hP in
/-- The carried counts: the tokens of the earlier blocks that chose the expert. -/
theorem carry_eq (n : ℕ) (e : Fin 16) : carryAt X W n (ix2 0 e) = ((cnt (fst (probs X W)) (snd (probs X W)) e (n * 512) : ℕ) : EReal) := by
  induction n generalizing e with
  | zero =>
    have h : k0_pay6 (F := Ideal) (ix2 0 e) = 0 := by
      unfold k0_pay6
      pointwise
    exact h.trans (by rw [Nat.zero_mul]; exact Nat.cast_zero.symm)
  | succ n ih =>
    show k0_pay20 (F := Ideal) cols (k0_pay10 (tokBlk X n) W) (k0_pay13 (tokBlk X n) W) (carryAt X W n) (ix2 0 e) = _
    rw [pay20_eq _ _ (bestOf X W n) (nextOf X W n) (first_word X W n) (second_word X W hP n) (fun r => snd_ne _ _) _ _ ih, cnt_block,
      Nat.succ_mul]

include hP in
/-- The position words of block `n`. -/
theorem pos_eq (n : ℕ) (hn : n < 8) (r : Fin 512) (e : Fin 16) : blkPos (F := Ideal) (tokBlk X n) W (carryAt X W n) (ix2 r e) =
    if e = fst (probs X W) (n * 512 + r.val) ∨ e = snd (probs X W) (n * 512 + r.val)
      then BitVec.ofNat 32 (cnt (fst (probs X W)) (snd (probs X W)) e (n * 512 + r.val)) else 4294967295#32 := by
  unfold blkPos
  rw [pay21_eq _ _ (bestOf X W n) (nextOf X W n) (first_word X W n) (second_word X W hP n) (fun r => snd_ne _ _) _ _ (carry_eq X W hP n)
    (fun e => (Nat.count_le _).trans (by omega)), cnt_block]

/-- A slot of the queue is the position word's. -/
theorem slot_eq (p : Prop) [Decidable p] (k : ℕ) (hk : k < 4294967296) (c : Fin 320) :
    IntOp.cmpi .eq (BitVec.ofNat 32 c.val) (if p then BitVec.ofNat 32 k else 4294967295#32) = BitVec.ofBool (decide (p ∧ k = c.val)) := by
  by_cases h : p
  · rw [if_pos h, cmpi_eq_ofNat _ _ (by omega) hk]
    simp only [h, true_and, eq_comm]
  · rw [if_neg h, show (4294967295#32 : BitVec 32) = BitVec.ofNat 32 4294967295 from rfl, cmpi_eq_ofNat _ _ (by omega) (by omega),
      decide_eq_false (by omega), decide_eq_false (fun q => h q.1)]

/-- A block's token. -/
theorem div_add (t : Fin 4096) : t.val / 512 * 512 + t.val % 512 = t.val := by omega

include hP in
/-- Which slot token `t` takes at expert `e`. -/
theorem word_eq (t : Fin 4096) (e : Fin 16) (c : Fin 320) :
    IntOp.cmpi .eq (BitVec.ofNat 32 c.val) (blkPos (F := Ideal) (tokBlk X (t.val / 512)) W (carryAt X W (t.val / 512)) (ix2 ⟨t.val % 512, Nat.mod_lt _ (by decide)⟩ e))
      = BitVec.ofBool (decide ((e = fst (probs X W) t.val ∨ e = snd (probs X W) t.val) ∧ cnt (fst (probs X W)) (snd (probs X W)) e t.val = c.val)) := by
  have ht := t.isLt
  rw [pos_eq X W hP _ (by omega)]
  dsimp only
  rw [div_add, slot_eq]
  have : cnt (fst (probs X W)) (snd (probs X W)) e t.val ≤ t.val := Nat.count_le _
  omega

include hP in
/-- The kernel's dispatch indicator is the reference's. -/
theorem disp_eq : dispBit X W = dispOf (probs X W) := by
  funext i
  obtain ⟨t, e, c, rfl⟩ : ∃ (t : Fin 4096) (e : Fin 16) (c : Fin 320), i = ix3 t e c := ⟨i 0, i 1, i 2, eq_ix3 i⟩
  rw [dispOf_eq]
  show IntOp.cmpi .ne (k0_pay2 (blkPos (F := Ideal) (tokBlk X (t.val / 512)) W (carryAt X W (t.val / 512)))
    (ValueIdx.ix3 ⟨t.val % 512, Nat.mod_lt _ (by decide)⟩ e c)) 0#32 = _
  rw [← ix3_eq_valueIdx, pay2_eq, word_eq X W hP]
  by_cases hc : cnt (fst (probs X W)) (snd (probs X W)) e t.val = c.val
  · by_cases ha : e = fst (probs X W) t.val
    · rw [decide_eq_true ⟨Or.inl ha, hc⟩, if_pos hc, if_pos ha]; rfl
    · by_cases hb : e = snd (probs X W) t.val
      · rw [decide_eq_true ⟨Or.inr hb, hc⟩, if_pos hc, if_neg ha, if_pos hb]; rfl
      · rw [decide_eq_false (fun q => q.1.elim ha hb), if_pos hc, if_neg ha, if_neg hb]; rfl
  · rw [decide_eq_false (fun q => hc q.2), if_neg hc]; rfl

include hP in
/-- The kernel's combine weights are the reference's. -/
theorem comb_eq : combArr X W = combOf (probs X W) := by
  funext i
  obtain ⟨t, e, c, rfl⟩ : ∃ (t : Fin 4096) (e : Fin 16) (c : Fin 320), i = ix3 t e c := ⟨i 0, i 1, i 2, eq_ix3 i⟩
  rw [combOf_eq]
  show k0_pay3 (F := Ideal) (blkPos (F := Ideal) (tokBlk X (t.val / 512)) W (carryAt X W (t.val / 512))) (blkWts (tokBlk X (t.val / 512)) W)
    (ValueIdx.ix3 ⟨t.val % 512, Nat.mod_lt _ (by decide)⟩ e c) = _
  rw [← ix3_eq_valueIdx, pay3_eq, word_eq X W hP, select_ofBool, blkWts_eq, prob_row, tok_div, ← fst_val, ← snd_val]
  by_cases hc : cnt (fst (probs X W)) (snd (probs X W)) e t.val = c.val
  · by_cases ha : e = fst (probs X W) t.val
    · rw [decide_eq_true ⟨Or.inl ha, hc⟩, if_pos rfl, if_pos hc, if_pos ha, if_pos ha]
    · by_cases hb : e = snd (probs X W) t.val
      · rw [decide_eq_true ⟨Or.inr hb, hc⟩, if_pos rfl, if_pos hc, if_neg ha, if_neg ha, if_pos hb]
      · rw [decide_eq_false (fun q => q.1.elim ha hb), if_neg Bool.false_ne_true, if_pos hc, if_neg ha, if_neg hb]
  · rw [decide_eq_false (fun q => hc q.2), if_neg Bool.false_ne_true, if_neg hc]

/-- The carried probability sums: the sum over the tokens of the earlier blocks. -/
theorem psum_eq (n : ℕ) (e : Fin 16) : psumAt X W n (ix2 0 e) = ∑ s ∈ Finset.range (n * 512), row (probs X W) (tok s) e := by
  induction n with
  | zero =>
    have h : k0_pay7 (F := Ideal) (ix2 0 e) = 0 := by
      unfold k0_pay7
      pointwise
    exact h.trans (by rw [Nat.zero_mul]; rfl)
  | succ n ih =>
    show k0_pay4 (F := Ideal) (k0_pay8 (tokBlk X n) W) (psumAt X W n) (ix2 0 e) = _
    rw [pay4_eq, ih, Nat.succ_mul, Finset.sum_range_add]
    simp only [pay8_row]
    rw [Fin.sum_univ_eq_sum_range (fun s => row (probs X W) (tok (n * 512 + s)) e) 512]

include hP in
/-- The kernel's loss is the reference's. -/
theorem loss_eq : lossOut X W = lossP (probs X W) := by
  have hs : ∀ e, psumAt X W 8 (ix2 0 e) = ∑ t : Fin 4096, probs X W (ix2 t e) := fun e => by
    rw [psum_eq, ← Fin.sum_univ_eq_sum_range (fun s => row (probs X W) (tok s) e) 4096]
    exact Finset.sum_congr rfl fun t _ => congrArg (fun t => row (probs X W) t e) (Fin.ext (Nat.mod_eq_of_lt t.isLt))
  have hl : ∀ v : FVec Ideal S1x1 .f32, shapeCast S_ v shapeCasts_S1x1_S_ ix0 = v (ix2 0 0) := fun v => by
    pointwise
  funext i
  obtain rfl : i = ix0 := funext fun a => a.elim0
  rw [lossP_eq]
  unfold lossOut
  rw [hl]
  unfold lossArr
  rw [pay5_eq]
  simp only [carry_eq X W hP, hs]

end Best

/-- With real arguments no probability is `⊥`. -/
theorem row_ne_bot (hX : ∀ i, ∃ r : ℝ, X i = r) (hW : ∀ i, ∃ r : ℝ, W i = r) (t : Fin 4096) (e : Fin 16) : row (probs X W) t e ≠ ⊥ := by
  unfold row
  rw [probs_eq]
  exact softmax_ne_bot (fun e => ∑ k, X (ix2 t k) * W (ix2 e k)) (fun e => dot_real _ _ (fun k => hX _) (fun k => hW _)) e

end Cert.KernelIdeal.Global

end
-- ==== Proof.Equal.lean ====
/- The equation of the results: from memories agreeing on the arguments, all of them real numbers, the idealized kernel
   and the reference end with the same four arrays. -/
module

public import proofs.«01_k».proof.Proof.KernelSpec
public import proofs.«01_k».proof.Proof.Frames

@[expose] public section

set_option maxRecDepth 16384

noncomputable section

namespace Cert.Proof

open Idealize.ShloMosaic Idealize.ShloMosaic.TcCoe Idealize.SL.Sem Cert.KernelIdeal.Global

/-- All four results of the idealized kernel are the reference's, and both leave the arguments unchanged. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Blocks.dispBit (F := Ideal) (Cert.KernelIdeal.Blocks.argX m c) (Cert.KernelIdeal.Blocks.argW m c),
    fun c => Cert.KernelIdeal.Blocks.combArr (F := Ideal) (Cert.KernelIdeal.Blocks.argX m c) (Cert.KernelIdeal.Blocks.argW m c),
    fun c => Cert.KernelIdeal.Blocks.probsArr (F := Ideal) (Cert.KernelIdeal.Blocks.argX m c) (Cert.KernelIdeal.Blocks.argW m c),
    fun c => Cert.KernelIdeal.Blocks.lossOut (F := Ideal) (Cert.KernelIdeal.Blocks.argX m c) (Cert.KernelIdeal.Blocks.argW m c),
    Cert.KernelIdeal.Blocks.run (F := Ideal) m g, ?_⟩
  refine (θ_run Cert.ReferenceIdeal.defs _ _).mono (fun r h c => ?_) (Cert.ReferenceIdeal.Stages.run (F := Ideal) m' g')
  obtain ⟨hX, hW⟩ := Cert.Router.real_of_finite _ _ (hpre c)
  have hP := row_ne_bot (Cert.KernelIdeal.Blocks.argX m c) (Cert.KernelIdeal.Blocks.argW m c) hX hW
  have eX : Cert.ReferenceIdeal.Stages.argX m' c = Cert.KernelIdeal.Blocks.argX m c := (hargs c).1
  have eW : Cert.ReferenceIdeal.Stages.argW m' c = Cert.KernelIdeal.Blocks.argW m c := (hargs c).2
  obtain ⟨h0, h1, h2, h3, h4, h5⟩ := h c
  rw [eX, eW] at h0 h1 h2 h3
  exact ⟨h0.trans (disp_eq _ _ hP).symm, h1.trans (comb_eq _ _ hP).symm, h2.trans (probsArr_eq _ _).symm,
    h3.trans (loss_eq _ _ hP).symm, h4, h5⟩

end Cert.Proof

end
-- ==== Proof.lean ====
/- The certificate's claim, assembled from the frames and from the equation of the results. -/
module

public import proofs.«01_k».proof.Defs
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Pre_finite.Gen.facts,
    frame_kernel, frame_kernelIdeal, frame_kernelIdeal_finite, frame_referenceIdeal, frame_referenceIdeal_finite, trivial,
    results_equal⟩

end Cert.Proof

end
